-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![256]⟩ ⟨1, ![2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![256]⟩ ⟨1, ![2048]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![512, 256]⟩ ⟨2, ![512, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x256 : Shape := ⟨2, ![512, 256]⟩
abbrev S256 : Shape := ⟨1, ![256]⟩
abbrev S_ : Shape := ⟨0, ![]⟩

class Facts : Prop where
  bcast_S_S512x256 : S_.BroadcastsInDim S512x256 (![] : Fin 0 → Fin S512x256.rank)

variable [Facts]

def fn {F : FTy → Type} [FloatOps F] (main_arg0 : FVec F S512x256 .bf16) (main_arg1 : FVec F S256 .bf16) (main_arg2 : FVec F S256 .bf16) : IVec S512x256 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  main_v2
-- ==== Pre_finite_ReferenceIdeal.lean ====
abbrev S512x2048 : Shape := ⟨2, ![512, 2048]⟩
abbrev S2048 : Shape := ⟨1, ![2048]⟩
abbrev S_ : Shape := ⟨0, ![]⟩

class Facts : Prop where
  bcast_S_S512x2048 : S_.BroadcastsInDim S512x2048 (![] : Fin 0 → Fin S512x2048.rank)

variable [Facts]

def fn {F : FTy → Type} [FloatOps F] (main_arg0 : FVec F S512x2048 .bf16) (main_arg1 : FVec F S2048 .bf16) (main_arg2 : FVec F S2048 .bf16) : IVec S512x2048 1 :=
  let main_v0 : FVec F S512x2048 .bf16 := Host.absf main_arg0
  let main_cst : FVec F S_ .bf16 := constant S_ .bf16 0x7F80#16
  let main_v1 : FVec F S512x2048 .bf16 := broadcastInDim S512x2048 ![] bcast_S_S512x2048 main_cst
  let main_v2 : IVec S512x2048 1 := cmpf .olt main_v0 main_v1
  main_v2
-- ==== Kernel.lean ====
abbrev S512x256 : Shape := ⟨2, ![512, 256]⟩
abbrev S256 : Shape := ⟨1, ![256]⟩
abbrev S1x256 : Shape := ⟨2, ![1, 256]⟩
abbrev S2x512 : Shape := ⟨2, ![2, 512]⟩
abbrev S8x2x512 : Shape := ⟨3, ![8, 2, 512]⟩
abbrev S8 : Shape := ⟨1, ![8]⟩
abbrev S_ : Shape := ⟨0, ![]⟩
abbrev S512 : Shape := ⟨1, ![512]⟩
abbrev S1x512 : Shape := ⟨2, ![1, 512]⟩
abbrev S1 : Shape := ⟨1, ![1]⟩
abbrev S1x2x512 : Shape := ⟨3, ![1, 2, 512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S256, .bf16⟩
  | .hbm, ⟨2, _⟩ => ⟨S256, .bf16⟩
  | .hbm, ⟨3, _⟩ => ⟨S1x256, .bf16⟩
  | .hbm, ⟨4, _⟩ => ⟨S1x256, .bf16⟩
  | .hbm, ⟨5, _⟩ => ⟨S512x256, .bf16⟩
  | .local _ .vmem, ⟨0, _⟩ => ⟨S512x256, .bf16⟩
  | .local _ .vmem, ⟨1, _⟩ => ⟨S1x256, .bf16⟩
  | .local _ .vmem, ⟨2, _⟩ => ⟨S1x256, .bf16⟩
  | .local _ .vmem, ⟨3, _⟩ => ⟨S512x256, .bf16⟩
  | .local _ .vmem, ⟨4, _⟩ => ⟨S2x512, .f32⟩
  | .local _ .vmem, ⟨5, _⟩ => ⟨S8x2x512, .f32⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_73 : BitVec 32 := 0#32
  let c0_i32_74 : BitVec 32 := 0#32
  ![v2.toNat, 0, 0]
def k0_dev8 : Nat :=
  let c0_i32_72 : BitVec 32 := 0#32
  let c0_i32_70 : BitVec 32 := 0#32
  let c1_i32_71 : BitVec 32 := 1#32
  let v107 : BitVec 32 := Scalar.muli c0_i32_70 c1_i32_71
  let v108 : BitVec 32 := Scalar.addi c0_i32_72 v107
  v108.toNat
def k0_dev9 : Nat :=
  let c0_i32_78 : BitVec 32 := 0#32
  let c1_i32_76 : BitVec 32 := 1#32
  let c1_i32_77 : BitVec 32 := 1#32
  let v115 : BitVec 32 := Scalar.muli c1_i32_76 c1_i32_77
  let v116 : BitVec 32 := Scalar.addi c0_i32_78 v115
  v116.toNat
def k0_dev10 : Nat :=
  let c0_i32_84 : BitVec 32 := 0#32
  let c2_i32_82 : BitVec 32 := 2#32
  let c1_i32_83 : BitVec 32 := 1#32
  let v123 : BitVec 32 := Scalar.muli c2_i32_82 c1_i32_83
  let v124 : BitVec 32 := Scalar.addi c0_i32_84 v123
  v124.toNat
def k0_dev11 : Nat :=
  let c0_i32_90 : BitVec 32 := 0#32
  let c3_i32_88 : BitVec 32 := 3#32
  let c1_i32_89 : BitVec 32 := 1#32
  let v131 : BitVec 32 := Scalar.muli c3_i32_88 c1_i32_89
  let v132 : BitVec 32 := Scalar.addi c0_i32_90 v131
  v132.toNat
def k0_dev12 : Nat :=
  let c0_i32_96 : BitVec 32 := 0#32
  let c4_i32_94 : BitVec 32 := 4#32
  let c1_i32_95 : BitVec 32 := 1#32
  let v139 : BitVec 32 := Scalar.muli c4_i32_94 c1_i32_95
  let v140 : BitVec 32 := Scalar.addi c0_i32_96 v139
  v140.toNat
def k0_dev13 : Nat :=
  let c0_i32_102 : BitVec 32 := 0#32
  let c5_i32_100 : BitVec 32 := 5#32
  let c1_i32_101 : BitVec 32 := 1#32
  let v147 : BitVec 32 := Scalar.muli c5_i32_100 c1_i32_101
  let v148 : BitVec 32 := Scalar.addi c0_i32_102 v147
  v148.toNat
def k0_dev14 : Nat :=
  let c0_i32_108 : BitVec 32 := 0#32
  let c6_i32_106 : BitVec 32 := 6#32
  let c1_i32_107 : BitVec 32 := 1#32
  let v155 : BitVec 32 := Scalar.muli c6_i32_106 c1_i32_107
  let v156 : BitVec 32 := Scalar.addi c0_i32_108 v155
  v156.toNat
def k0_dev15 : Nat :=
  let c0_i32_114 : BitVec 32 := 0#32
  let c7_i32_112 : BitVec 32 := 7#32
  let c1_i32_113 : BitVec 32 := 1#32
  let v163 : BitVec 32 := Scalar.muli c7_i32_112 c1_i32_113
  let v164 : BitVec 32 := Scalar.addi c0_i32_114 v163
  v164.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x2048 : Shape := ⟨2, ![512, 2048]⟩
abbrev S2048 : Shape := ⟨1, ![2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048, .bf16⟩
  | .hbm, ⟨2, _⟩ => ⟨S2048, .bf16⟩
  | .hbm, ⟨3, _⟩ => ⟨S512x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .i32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S512, .f32⟩
  | .hbm, ⟨27, _⟩ => ⟨S512x1, .f32⟩
  | .hbm, ⟨28, _⟩ => ⟨S512x1, .f32⟩
  | .hbm, ⟨29, _⟩ => ⟨S512x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S512x1, .f32⟩
  | .hbm, ⟨35, _⟩ => ⟨S512x1, .f32⟩
  | .hbm, ⟨36, _⟩ => ⟨S512x2048, .f32⟩
  | .hbm, ⟨37, _⟩ => ⟨S512x2048, .f32⟩
  | .hbm, ⟨38, _⟩ => ⟨S1x2048, .f32⟩
  | .hbm, ⟨39, _⟩ => ⟨S512x2048, .f32⟩
  | .hbm, ⟨40, _⟩ => ⟨S512x2048, .f32⟩
  | .hbm, ⟨41, _⟩ => ⟨S_, .f32⟩
  | .hbm, ⟨42, _⟩ => ⟨S512x1, .f32⟩
  | .hbm, ⟨43, _⟩ => ⟨S512x1, .f32⟩
  | .hbm, ⟨44, _⟩ => ⟨S512x1, .f32⟩
  | .hbm, ⟨45, _⟩ => ⟨S512x2048, .f32⟩
  | .hbm, ⟨46, _⟩ => ⟨S512x2048, .f32⟩
  | .hbm, ⟨47, _⟩ => ⟨S1x2048, .f32⟩
  | .hbm, ⟨48, _⟩ => ⟨S512x2048, .f32⟩
  | .hbm, ⟨49, _⟩ => ⟨S512x2048, .f32⟩
  | .hbm, ⟨50, _⟩ => ⟨S512x2048, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩

abbrev nD : Nat := 1
abbrev τ : Topo := Topo.v7x

variable {F : FTy → Type} [FloatOps F]
-- ==== Proof.Cells.lean ====
/-
# The kernel's buffers, semaphores and what it leaves in them

Each of the eight devices reduces its block of columns to a pair of rows (the sums and the sums of squares), and sends
that pair to every device. This module names the places the exchange touches — the pair's buffer, the eight slots of
the gathering buffer, the barrier, send and receive cells — and the contents the exchange gives them, over any family
of float values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ShareLeaves
public import Idealize.ShloMosaic.Lib.ValueLayout
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-- The exchange's records are kept over duties named by devices, beside the pipeline's own. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers -/

abbrev statM : Memref sig .tc .vmem S2x512 .f32 := Memref.whole cc0_scratch0
abbrev commM : Memref sig .tc .vmem S8x2x512 .f32 := Memref.whole cc0_scratch1

/-- The pair of rows of the gathering buffer at an offset. -/
abbrev slotAt (off : Fin 3 → ℕ) (h : ∀ a, off a + S1x2x512.size a ≤ S8x2x512.size a) : Memref sig .tc .vmem S2x512 .f32 :=
  (commM.slice (Rect.unit (s := S8x2x512) off S1x2x512.size h) (fun _ => rfl)).squeeze S2x512 squeezes_S1x2x512_S2x512

theorem slot_inb (q : Dev nD) : ∀ a, (![q.val, 0, 0] : Fin 3 → ℕ) a + S1x2x512.size a ≤ S8x2x512.size a := by
  revert q; decide

/-- Slot `q`: where device `q`'s pair lands. -/
abbrev slotM (q : Dev nD) : Memref sig .tc .vmem S2x512 .f32 := slotAt ![q.val, 0, 0] (slot_inb q)

theorem slotAt_congr {off off' : Fin 3 → ℕ} (e : off = off') (h : ∀ a, off a + S1x2x512.size a ≤ S8x2x512.size a)
    (h' : ∀ a, off' a + S1x2x512.size a ≤ S8x2x512.size a) : slotAt off h = slotAt off' h' := by subst e; rfl

/-- The slot the kernel names by its own device number. -/
theorem slot_own (c : Dev nD) : slotAt (k0_off2 c) (k0_off2_inb c) = slotM c := slotAt_congr (k0_off2_eq c) _ _

/-! ## Semaphores -/

/-- One semaphore of a row of eight. -/
abbrev semAt (a : DmaSems sig S8) (off : Fin 1 → ℕ) (h : ∀ a, off a + S1.size a ≤ S8.size a) : DmaSem sig :=
  ((a.slice (Rect.unit (s := S8) off S1.size h)).squeeze S_ squeezes_S1_S_).sem

theorem sem_inb (q : Dev nD) : ∀ a, (![q.val] : Fin 1 → ℕ) a + S1.size a ≤ S8.size a := by revert q; decide

theorem semAt_congr (a : DmaSems sig S8) {off off' : Fin 1 → ℕ} (e : off = off') (h : ∀ a, off a + S1.size a ≤ S8.size a)
    (h' : ∀ a, off' a + S1.size a ≤ S8.size a) : semAt a off h = semAt a off' h' := by subst e; rfl

abbrev barS : Sem sig := (SemArray.scalar (sig.barrier 0 rfl) : Sems sig S_).sem
abbrev sendS (p : Dev nD) : DmaSem sig := semAt cc0_scratch2 ![p.val] (sem_inb p)
abbrev recvS (q : Dev nD) : DmaSem sig := semAt cc0_scratch3 ![q.val] (sem_inb q)

theorem recv_own (c : Dev nD) : semAt cc0_scratch3 (k0_off1 c) (k0_off1_inb c) = recvS c := semAt_congr _ (k0_off1_eq c) _ _

theorem sendS_val (p : Dev nD) : (sendS p).val = 4 + p.val := by revert p; decide
theorem recvS_val (q : Dev nD) : (recvS q).val = 12 + q.val := by revert q; decide

theorem sendS_inj {p p' : Dev nD} (h : sendS p = sendS p') : p = p' := by
  have := congrArg Fin.val h; rw [sendS_val, sendS_val] at this; exact Fin.ext (by omega)
theorem recvS_inj {q q' : Dev nD} (h : recvS q = recvS q') : q = q' := by
  have := congrArg Fin.val h; rw [recvS_val, recvS_val] at this; exact Fin.ext (by omega)
theorem sendS_ne_recvS (p q : Dev nD) : sendS p ≠ recvS q := fun h => by
  have := congrArg Fin.val h; rw [sendS_val, recvS_val] at this
  have hp : p.val < 8 := p.isLt
  omega

abbrev barCell (c : Dev nD) : GSem nD τ sig := ((c : Thread nD τ), .reg barS)
abbrev sendCell (c p : Dev nD) : GSem nD τ sig := ((c : Thread nD τ), .dma (sendS p))
abbrev recvCell (c q : Dev nD) : GSem nD τ sig := ((c : Thread nD τ), .dma (recvS q))

/-- The units one pair's transfer moves. -/
abbrev N : ℕ := (statM : Memref sig .tc .vmem S2x512 .f32).view.dmaCredit
theorem N_pos : 0 < N := View.dmaCredit_pos _ (by decide)
theorem N_slot (q : Dev nD) : (slotM q).view.dmaCredit = N := rfl

/-! ## Contents -/

/-- The pair of rows a device computes from its block of columns: the sums, then the sums of squares. -/
def statOf (x : Vec F S512x256 .bf16) : Vec F S2x512 .f32 := fun i =>
  if (i 0).val = 0 then k0_pay3 (k0_pay2 x) (ix2 (0 : Fin 1) (i 1)) else k0_pay4 (k0_pay2 x) (ix2 (0 : Fin 1) (i 1))

/-- The pairs of all devices, stacked by device. -/
def gath (st : Dev nD → Vec F S2x512 .f32) : Vec F S8x2x512 .f32 := fun i => st (i 0) (ix2 (i 1) (i 2))

/-- An element of the pair, as an element of its row. -/
theorem row_emb (off : Fin 2 → ℕ) (inb : ∀ a, off a + S1x512.size a ≤ S2x512.size a) (i : S2x512.Idx) (h1 : off 1 = 0)
    (h0 : (i 0).val = off 0) : i = (Rect.unit (s := S2x512) off S1x512.size inb).emb (ix2 (0 : Fin 1) (i 1)) := by
  funext a
  refine Fin.ext ?_
  match a with
  | ⟨0, _⟩ => show (i 0).val = off 0 + 1 * 0; omega
  | ⟨1, _⟩ => show (i 1).val = off 1 + 1 * (i 1).val; omega

/-- The first row written, then the second, make the pair. -/
theorem stat_write (f : (cc0_scratch0).ty.Contents (Elt F)) (x : Vec F S512x256 .bf16) :
    (statM.access (Rect.unit (s := S2x512) ![1, 0] S1x512.size inb_S2x512_S1x512_1_0)).write (Elt F)
        ((statM.access (Rect.unit (s := S2x512) ![0, 0] S1x512.size inb_S2x512_S1x512_0_0)).write (Elt F) f (k0_pay3 (k0_pay2 x)) Finset.univ)
        (k0_pay4 (k0_pay2 x)) Finset.univ
      = statOf x := by
  funext i
  by_cases h0 : (i 0).val = 0
  · have hi : i = (statM.access (Rect.unit (s := S2x512) ![0, 0] S1x512.size inb_S2x512_S1x512_0_0)).emb (ix2 (0 : Fin 1) (i 1)) :=
      row_emb ![0, 0] _ i rfl h0
    have hn : i ∉ (statM.access (Rect.unit (s := S2x512) ![1, 0] S1x512.size inb_S2x512_S1x512_1_0)).setOn Finset.univ := by
      show i ∉ ((View.whole cc0_scratch0).slice _).set
      rw [View.set_slice_whole, Rect.mem_set_unit]
      intro h
      have h1 := (h 0).1
      rw [h0] at h1
      exact absurd h1 (by decide)
    rw [View.write_of_not_mem _ _ _ hn]
    conv_lhs => rw [hi]
    rw [View.write_emb_of_mem _ _ (Finset.mem_univ _)]
    unfold statOf
    rw [if_pos h0]
    rfl
  · have h1 : (i 0).val = 1 := by have : (i 0).val < 2 := (i 0).isLt; omega
    have hi : i = (statM.access (Rect.unit (s := S2x512) ![1, 0] S1x512.size inb_S2x512_S1x512_1_0)).emb (ix2 (0 : Fin 1) (i 1)) :=
      row_emb ![1, 0] _ i rfl h1
    conv_lhs => rw [hi]
    rw [View.write_emb_of_mem _ _ (Finset.mem_univ _)]
    unfold statOf
    rw [if_neg h0]
    rfl

/-! ## The slots make the gathering buffer -/

theorem slot_set (q : Dev nD) :
    (slotM q).view.set = (Rect.unit (s := S8x2x512) ![q.val, 0, 0] S1x2x512.size (slot_inb q)).set :=
  (View.set_reshape (v := (commM.slice (Rect.unit (s := S8x2x512) ![q.val, 0, 0] S1x2x512.size (slot_inb q)) (fun _ => rfl)).view) _).trans
    (View.set_slice_whole cc0_scratch1 _)

/-- The elements of slot `q`, as elements of the gathering buffer. -/
abbrev slotSet (q : Dev nD) : Finset S8x2x512.Idx := (slotM q).view.set

theorem slot_disjoint (b b' : Dev nD) (h : b ≠ b') : Disjoint (slotSet b) (slotSet b') := by
  unfold slotSet
  rw [slot_set, slot_set]
  exact Ring.lead_disjoint (NB := 8) (s := S8x2x512) 0 1 (fun b : Fin 8 => ![b.val, 0, 0]) S1x2x512.size slot_inb (fun b => (Nat.one_mul _).symm) rfl b b' h

theorem slot_cover (i : S8x2x512.Idx) : i ∈ slotSet (i 0) := by
  have h := slot_set (i 0)
  refine (Finset.ext_iff.mp h i).mpr (Rect.mem_set_unit.mpr fun a => ?_)
  match a with
  | ⟨0, _⟩ => exact ⟨le_rfl, Nat.lt_succ_self _⟩
  | ⟨1, _⟩ => exact ⟨Nat.zero_le _, (i 1).isLt.trans_eq (Nat.zero_add _).symm⟩
  | ⟨2, _⟩ => exact ⟨Nat.zero_le _, (i 2).isLt.trans_eq (Nat.zero_add _).symm⟩

/-- An element of a pair, as an element of slot `q`. -/
theorem slot_emb (q : Dev nD) (z : S2x512.Idx) : (slotM q).view.emb z = ix3 q (z 0) (z 1) := by
  show (Rect.unit (s := S8x2x512) ![q.val, 0, 0] S1x2x512.size (slot_inb q)).emb (Shape.reshapeEquiv _ z) = _
  have e : z = ix2 (n0 := 2) (n1 := 512) (z 0) (z 1) := ValueIdx.eq_ix2 z
  generalize hh : squeezes_S1x2x512_S2x512.numel_eq = hn
  have hr : Shape.reshapeEquiv hn z = ix3 (⟨0, Nat.one_pos⟩ : Fin 1) (z 0) (z 1) :=
    (congrArg (Shape.reshapeEquiv hn) e).trans (ValueIdx.reshapeEquiv_ix2_1ab hn (z 0) (z 1))
  refine (congrArg (Rect.unit (s := S8x2x512) ![q.val, 0, 0] S1x2x512.size (slot_inb q)).emb hr).trans ?_
  funext a
  refine Fin.ext ?_
  match a with
  | ⟨0, _⟩ => show q.val + 1 * 0 = q.val; omega
  | ⟨1, _⟩ => show 0 + 1 * (z 0).val = (z 0).val; omega
  | ⟨2, _⟩ => show 0 + 1 * (z 1).val = (z 1).val; omega

/-- The gathering buffer held is its slots held. -/
theorem comm_split (c : Dev nD) (f : (cc0_scratch1).ty.Contents (Elt F)) :
    ((c : Thread nD τ).loc cc0_scratch1 ↦{fullShare} f : sProp 𝕄)
      = bigSep Finset.univ fun q : Dev nD => (c : Thread nD τ).loc cc0_scratch1 ↦[slotSet q]{fullShare} f :=
  Ring.pointsTo_blocks (ℓ := (c : Thread nD τ).loc cc0_scratch1) (fun q : Dev nD => slotSet q) slot_disjoint
    (Finset.eq_univ_iff_forall.2 fun i => Finset.mem_biUnion.2 ⟨i 0, Finset.mem_univ _, slot_cover i⟩) f

/-- A device's pair written over slot `q` leaves there what the gathered contents say. -/
theorem slot_landed (c q : Dev nD) (st : Dev nD → Vec F S2x512 .f32) (f : (cc0_scratch1).ty.Contents (Elt F)) :
    ((c : Thread nD τ).loc cc0_scratch1 ↦[slotSet q]{fullShare} ((slotM q).view.write (Elt F) f (st q) Finset.univ) : sProp 𝕄)
      = (c : Thread nD τ).loc cc0_scratch1 ↦[slotSet q]{fullShare} gath st := by
  refine pointsTo_congr fun i hi => ?_
  obtain ⟨z, -, rfl⟩ := Finset.mem_map.mp hi
  rw [View.write_emb_of_mem _ _ (Finset.mem_univ _)]
  have hz := slot_emb q z
  rw [hz]
  show st q z = st q (ix2 (z 0) (z 1))
  exact congrArg (st q) (ValueIdx.eq_ix2 (n0 := 2) (n1 := 512) z)

end Cert.Exchange
-- ==== Proof.Protocol.lean ====
/-
# The exchange's protocol

Every device waits on its barrier cell for one unit from each of the seven others. With its unit a device hands over the
slot of its own gathering buffer that the receiver will fill, and the fact that its receive cell for that slot stands at
round 0. A transfer from `c` to `d` pays two cells: `c`'s send cell for `d`, which gives back the share of `c`'s pair the
transfer read, and `d`'s receive cell for `c`, which gives `d` the slot holding `c`'s pair. `st d` is the pair device `d`
sends.
-/
module

public import proofs.«01_k».proof.Proof.Cells

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (st : Dev nD → Vec F S2x512 .f32)

/-! ## What the cells hand over -/

/-- Slot `q` of device `c`'s gathering buffer, at some contents. -/
def slotAny (c q : Dev nD) : sProp 𝕄 :=
  iprop(∃ f : (cc0_scratch1).ty.Contents (Elt F), (c : Thread nD τ).loc cc0_scratch1 ↦[slotSet q]{fullShare} f)
/-- Slot `q` of device `c`'s gathering buffer, holding device `q`'s pair. -/
def slotFull (c q : Dev nD) : sProp 𝕄 := (c : Thread nD τ).loc cc0_scratch1 ↦[slotSet q]{fullShare} gath st
/-- Device `c`'s pair, at the share the transfer to `p` reads it with. -/
def statLeaf (c p : Dev nD) : sProp 𝕄 := (c : Thread nD τ).loc cc0_scratch0 ↦{leaf 3 fullShare p} (st c)

/-- Paid to `c`'s barrier cell by `d`. -/
def barPay (c d : Dev nD) : sProp 𝕄 := iprop(slotAny d c ∗ reached ER (recvCell d c) 0)

/-! ## The schedule -/

/-- The device a DMA semaphore of the exchange is about. -/
def peerOf (base : ℕ) (s : DmaSem sig) : Dev nD := ⟨(s.val - base) % 8, Nat.mod_lt _ (by decide)⟩

theorem peerOf_send (p : Dev nD) : peerOf 4 (sendS p) = p := by revert p; decide
theorem peerOf_recv (q : Dev nD) : peerOf 12 (recvS q) = q := by revert q; decide

/-- The duties of a cell's one round: on the barrier cell one for each other device; on a send cell one, the device's
    own; on a receive cell one, the sender's. -/
def dutiesOf (c : Dev nD) : SemLoc sig → Finset (Dev nD)
  | .reg _ => Finset.univ.erase c
  | .dma s => if s.val < 4 then ∅ else if s.val < 12 then {c} else {peerOf 12 s}

def amountOf : SemLoc sig → ℕ
  | .reg _ => 1
  | .dma _ => N

def payloadOf (c d : Dev nD) : SemLoc sig → sProp 𝕄
  | .reg _ => barPay c d
  | .dma s => if s.val < 12 then statLeaf st c (peerOf 4 s) else slotFull st c d

def Rd : Rounds.Schedule (GSem nD τ sig) (Dev nD) 𝕄 where
  duties g r := if r = 0 ∧ g.1.2 = .tc then dutiesOf g.1.1 g.2 else ∅
  amount g _ _ := amountOf g.2
  payload g _ d := payloadOf st g.1.1 d g.2
  amount_pos g _ _ _ := by
    show 0 < amountOf g.2
    cases g.2 with
    | reg s => exact Nat.one_pos
    | dma s => exact N_pos

instance payload_storable (g : GSem nD τ sig) (r : ℕ) (d : Dev nD) : BI.Storable (upEmb : UEmb _ 𝕄) ((Rd st).payload g r d) := by
  show BI.Storable upEmb (payloadOf st g.1.1 d g.2)
  unfold payloadOf barPay slotAny statLeaf slotFull
  (repeat' split) <;> infer_instance

section Sched
variable (c d : Dev nD)

theorem duties_bar : (Rd st).duties (barCell c) 0 = Finset.univ.erase c := by dsimp only [Rd]; exact if_pos ⟨rfl, rfl⟩
theorem duties_send : (Rd st).duties (sendCell c d) 0 = {c} := by
  dsimp only [Rd]; rw [if_pos ⟨rfl, rfl⟩]; dsimp only [dutiesOf]
  have hd : d.val < 8 := d.isLt
  rw [sendS_val, if_neg (by omega), if_pos (by omega)]
theorem duties_recv : (Rd st).duties (recvCell c d) 0 = {d} := by
  dsimp only [Rd]; rw [if_pos ⟨rfl, rfl⟩]; dsimp only [dutiesOf]
  rw [recvS_val, if_neg (by omega), if_neg (by omega), peerOf_recv]
theorem duties_later (g : GSem nD τ sig) : ∀ r, 1 ≤ r → (Rd st).duties g r = ∅ :=
  fun r hr => by dsimp only [Rd]; rw [if_neg (fun h => by omega)]

theorem amount_bar : (Rd st).amount (barCell c) 0 d = 1 := rfl
theorem amount_send (e : Dev nD) : (Rd st).amount (sendCell c d) 0 e = N := rfl
theorem amount_recv (e : Dev nD) : (Rd st).amount (recvCell c d) 0 e = N := rfl

theorem expect_bar : (Rd st).expect (barCell c) 0 = 7 := by
  unfold Schedule.expect Schedule.amountOf
  rw [duties_bar, Finset.sum_congr rfl (fun d _ => amount_bar st c d), Finset.sum_const, Finset.card_erase_of_mem (Finset.mem_univ _), Finset.card_univ]
  rfl
theorem expect_send : (Rd st).expect (sendCell c d) 0 = N := by
  unfold Schedule.expect Schedule.amountOf; rw [duties_send, Finset.sum_singleton, amount_send]
theorem expect_recv : (Rd st).expect (recvCell c d) 0 = N := by
  unfold Schedule.expect Schedule.amountOf; rw [duties_recv, Finset.sum_singleton, amount_recv]

theorem payload_bar : (Rd st).payload (barCell c) 0 d = barPay c d := rfl
theorem payload_send (e : Dev nD) : (Rd st).payload (sendCell c d) 0 e = statLeaf st c d := by
  show payloadOf st c e (.dma (sendS d)) = _
  unfold payloadOf
  have hd : d.val < 8 := d.isLt
  dsimp only; rw [if_pos (by rw [sendS_val]; omega), peerOf_send]
theorem payload_recv (e : Dev nD) : (Rd st).payload (recvCell c d) 0 e = slotFull st c e := by
  show payloadOf st c e (.dma (recvS d)) = _
  unfold payloadOf
  dsimp only; rw [if_neg (by rw [recvS_val]; omega)]

theorem rest_bar : bigSep ((Rd st).duties (barCell c) 0 \ ∅) (fun d => (Rd st).payload (barCell c) 0 d)
    = bigSep (Finset.univ.erase c) fun d => (barPay c d : sProp 𝕄) := by rw [Finset.sdiff_empty, duties_bar]; rfl
theorem rest_send : bigSep ((Rd st).duties (sendCell c d) 0 \ ∅) (fun e => (Rd st).payload (sendCell c d) 0 e) = statLeaf st c d := by
  rw [Finset.sdiff_empty, duties_send, bigSep_singleton, payload_send]
theorem rest_recv : bigSep ((Rd st).duties (recvCell c d) 0 \ ∅) (fun e => (Rd st).payload (recvCell c d) 0 e) = slotFull st c d := by
  rw [Finset.sdiff_empty, duties_recv, bigSep_singleton, payload_recv]

end Sched

/-! ## What a device owes, and in which order cells are waited for -/

/-- Units owed to a list of cells, the first to be paid last added. -/
def due : List (GSem nD τ sig × ℕ) → CellTallies nD τ sig Unit
  | [] => 0
  | x :: xs => due xs + tallyAt x.1 () x.2

theorem due_pos {l : List (GSem nD τ sig × ℕ)} {g : GSem nD τ sig} {u : Unit} (h : 0 < due l g u) : ∃ x ∈ l, g = x.1 := by
  induction l with
  | nil => exact absurd h (Nat.lt_irrefl 0)
  | cons x xs ih =>
    by_cases hg : g = x.1
    · exact ⟨x, List.mem_cons_self, hg⟩
    · have h' : 0 < due xs g u + tallyAt x.1 () x.2 g u := h
      rw [tallyAt_apply, if_neg (fun e => hg e.1), Nat.add_zero] at h'
      obtain ⟨y, hy, e⟩ := ih h'
      exact ⟨y, List.mem_cons_of_mem _ hy, e⟩

/-- The transfers `c` makes, by target. -/
def sendDues (c : Dev nD) : List (GSem nD τ sig × ℕ) :=
  [(recvCell 0 c, N), (recvCell 1 c, N), (recvCell 2 c, N), (recvCell 3 c, N), (recvCell 4 c, N), (recvCell 5 c, N), (recvCell 6 c, N), (recvCell 7 c, N)]
/-- The signals it makes, then the transfers. -/
def allDues (c : Dev nD) : List (GSem nD τ sig × ℕ) :=
  (barCell (c + 1), 1) :: (barCell (c + 2), 1) :: (barCell (c + 3), 1) :: (barCell (c + 4), 1) :: (barCell (c + 5), 1) :: (barCell (c + 6), 1)
    :: (barCell (c + 7), 1) :: sendDues c

def O₀ (c : Dev nD) : CellTallies nD τ sig Unit := due (allDues c)

def L (g : GSem nD τ sig) : Finset Unit := if g.1.2 = .tc then {()} else ∅
/-- Barrier cells are waited for before receive cells, the rest before both. -/
def lv (g : GSem nD τ sig) (_ : Unit) : ℕ := match g.2 with
  | .reg _ => 1
  | .dma s => if s.val < 12 then 0 else 2

theorem L_of_ne (g : GSem nD τ sig) (h : g.1.2 ≠ .tc) : L g = ∅ := if_neg h
theorem L_tc (c : Dev nD) (sm : SemLoc sig) : L ((c : Thread nD τ), sm) = {()} := if_pos rfl

theorem lv_recv (c q : Dev nD) (u : Unit) : lv (recvCell c q) u = 2 := by
  show (if (recvS q).val < 12 then 0 else 2) = 2
  rw [if_neg (by rw [recvS_val]; omega)]

theorem mem_sendDues {c : Dev nD} {x : GSem nD τ sig × ℕ} (h : x ∈ sendDues c) : ∃ p, x = (recvCell p c, N) := by
  simp only [sendDues, List.mem_cons, List.not_mem_nil, or_false] at h
  rcases h with h | h | h | h | h | h | h | h <;> exact ⟨_, h⟩

theorem mem_allDues {c : Dev nD} {x : GSem nD τ sig × ℕ} (h : x ∈ allDues c) :
    (∃ p, x = (recvCell p c, N)) ∨ ∃ d, x = (barCell d, 1) := by
  simp only [allDues, List.mem_cons] at h
  rcases h with h | h | h | h | h | h | h | h
  all_goals first
    | exact .inl (mem_sendDues h)
    | exact .inr ⟨_, h⟩

/-- While only transfers are owed the barrier cell may be waited for. -/
theorem mayWait_bar (c : Dev nD) : (levAts L lv : sProp 𝕄) ⊢ MayWait (c : Thread nD τ) (.reg barS) () (due (sendDues c)) :=
  MayOwe.of_cut (L := L) (lev := lv) 1 (fun p hp => by rw [Finset.mem_singleton.mp hp, L_tc]; exact Finset.mem_singleton_self _)
    (fun g u hg => by
      obtain ⟨x, hx, rfl⟩ := due_pos hg
      obtain ⟨p, rfl⟩ := mem_sendDues hx
      rw [L_tc]; exact Finset.mem_singleton_self _)
    (fun p hp => by rw [Finset.mem_singleton.mp hp]; exact le_rfl)
    (fun g u hg => by
      obtain ⟨x, hx, rfl⟩ := due_pos hg
      obtain ⟨p, rfl⟩ := mem_sendDues hx
      rw [lv_recv]; decide)

end Cert.Exchange
-- ==== Proof.Steps.lean ====
/-
# One rule for each effect of the exchange

The records every device keeps of every cell, what one device carries into the kernel, and the four effects of its body
— a signal, a transfer, the two kinds of wait — each as one rule over them.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

abbrev 𝒱₀ : Variants := Variants.none

variable (st : Dev nD → Vec F S2x512 .f32) (K : GSem nD τ sig → ℕ)

/-! ## The cells -/

/-- The kernel's own semaphores: the send row, then the receive row. -/
abbrev osem : Dev nD ⊕ Dev nD → SemLoc sig
  | .inl p => .dma (sendS p)
  | .inr q => .dma (recvS q)

theorem osem_inj : Function.Injective osem := by
  rintro (p | p) (q | q) h
  · exact congrArg Sum.inl (sendS_inj (SemLoc.dma.inj h))
  · exact absurd (SemLoc.dma.inj h) (sendS_ne_recvS p q)
  · exact absurd (SemLoc.dma.inj h).symm (sendS_ne_recvS q p)
  · exact congrArg Sum.inr (recvS_inj (SemLoc.dma.inj h))

def barEmb : Dev nD ↪ GSem nD τ sig := ⟨fun c => barCell c, fun _ _ h => congrArg (fun g : GSem nD τ sig => g.1.1) h⟩
def scEmb : Dev nD × (Dev nD ⊕ Dev nD) ↪ GSem nD τ sig :=
  ⟨fun x => ((x.1 : Thread nD τ), osem x.2), fun x y h =>
    Prod.ext (congrArg (fun g : GSem nD τ sig => g.1.1) h) (osem_inj (congrArg (fun g : GSem nD τ sig => g.2) h))⟩

abbrev barCells : Finset (GSem nD τ sig) := Finset.univ.map barEmb
abbrev scCells : Finset (GSem nD τ sig) := Finset.univ.map scEmb

theorem bar_mem (c : Dev nD) : barCell c ∈ barCells ∪ scCells :=
  Finset.mem_union_left _ (Finset.mem_map_of_mem barEmb (Finset.mem_univ c))
theorem send_mem (c p : Dev nD) : sendCell c p ∈ barCells ∪ scCells :=
  Finset.mem_union_right _ (Finset.mem_map.mpr ⟨(c, Sum.inl p), Finset.mem_univ _, rfl⟩)
theorem recv_mem (c q : Dev nD) : recvCell c q ∈ barCells ∪ scCells :=
  Finset.mem_union_right _ (Finset.mem_map.mpr ⟨(c, Sum.inr q), Finset.mem_univ _, rfl⟩)

/-- Every cell's invariant, and that every barrier cell stands at round 0. -/
def records : sProp 𝕄 :=
  iprop((bigSep (barCells ∪ scCells) fun g => cellInv ER (Rd st) (K g) g) ∗ bigSep barCells fun g => reached ER g 0)

instance records_persistent : BI.Persistent (records st K) := by unfold records; infer_instance

theorem inv_at {g : GSem nD τ sig} (hg : g ∈ barCells ∪ scCells) : records st K ⊢ cellInv ER (Rd st) (K g) g := by
  unfold records
  iintro ⟨H, -⟩
  iapply (show (bigSep (barCells ∪ scCells) fun g => cellInv ER (Rd st) (K g) g) ⊢ (cellInv ER (Rd st) (K g) g : sProp 𝕄) from bigSep_elim hg)
  iexact H
theorem reached_bar (c : Dev nD) : records st K ⊢ (reached ER (barCell c) 0 : sProp 𝕄) := by
  unfold records
  iintro ⟨-, H⟩
  iapply (show (bigSep barCells fun g => (reached ER g 0 : sProp 𝕄)) ⊢ reached ER (barCell c) 0 from
    bigSep_elim (Finset.mem_map.mpr ⟨c, Finset.mem_univ _, rfl⟩))
  iexact H

/-! ## What device `c` holds of its own cells -/

/-- What it owes, whatever waits it has recorded. -/
def owing (c : Dev nD) (O : CellTallies nD τ sig Unit) : sProp 𝕄 := iprop(∃ W, owes (c : Thread nD τ) O W)

/-- The cell at the round `r`, and the same closed. -/
def at0 (g : GSem nD τ sig) : sProp 𝕄 := atPos ER g 0 ∅ 0
def at1 (g : GSem nD τ sig) : sProp 𝕄 := atPos ER g (0 + 1) ∅ 0

theorem close_cell {g : GSem nD τ sig} (hg : g ∈ barCells ∪ scCells) :
    iprop(records st K ∗ at1 g) ⊢ (|={Set.univ}=> semVal g 0 : sProp 𝕄) := by
  unfold at1
  iintro ⟨#H, Hat⟩
  iapply (Rounds.cell_close ER (Rd st) (Set.mem_univ (K g)) (fun h => h) (R := 0 + 1) (duties_later st g))
  isplitr
  · iapply (inv_at st K hg); iexact H
  · iexact Hat

/-! ## The effects -/

section Effects

/-- A signal to `n`: the slot `n` will fill goes with it. -/
theorem wp_tell {α : Type} {Q : α → sProp 𝕄} {k : PUnit → Prog (TpuEff nD τ sig (Elt F) Λ₀ .tc) α}
    (c n d : Dev nD) (hd : d = n) (hn : n ≠ c) (l : List (GSem nD τ sig × ℕ)) :
    iprop(records st K ∗ owing c (due ((barCell n, 1) :: l)) ∗ dutyTok ER (barCell n) 0 c ∗ slotAny c n ∗ reached ER (recvCell c n) 0)
      ⊢ iprop((owing c (due l) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (d, .tc) barS (1#32).toInt) k) Q) := by
  subst hd
  unfold owing
  iintro ⟨#Hrec, ⟨%W, HO⟩, Htok, Hslot, Hr⟩ Hk
  iapply (Rounds.wp_signal 𝒱₀ ER (Rd st) (c : Thread nD τ) none (dst := (d : Thread nD τ)) (sem := barS) (r := 0) (d := c) (κ := K (barCell d))
      (by rw [duties_bar]; exact Finset.mem_erase.mpr ⟨hn.symm, Finset.mem_univ _⟩) ((amount_bar st d c).trans (by decide)) () (due l) rfl)
    $$ [HO Htok Hslot Hr]
  · isplitr; · iapply (inv_at st K (bar_mem d)); iexact Hrec
    isplitl [HO]; · iexact HO
    isplitl [Htok]; · iexact Htok
    isplitl [Hslot Hr]
    · rw [payload_bar]; unfold barPay
      isplitl [Hslot] <;> iassumption
    · iapply (reached_bar st K d); iexact Hrec
  iintro HO
  iapply Hk
  iexists W; iexact HO

/-- The wait for the seven others' units: their slots for `c` come with it. -/
theorem wp_gathered {α : Type} {Q : α → sProp 𝕄} {k : PUnit → Prog (TpuEff nD τ sig (Elt F) Λ₀ .tc) α}
    (c : Dev nD) :
    iprop(records st K ∗ owing c (due (sendDues c)) ∗ at0 (barCell c) ∗ cred (tallyAt (barCell c) () 7) ∗ levAts L lv)
      ⊢ iprop(((owing c (due (sendDues c)) ∗ at1 (barCell c) ∗ bigSep (Finset.univ.erase c) fun d => barPay c d)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32).toInt) k) Q) := by
  unfold owing at0 at1
  iintro ⟨#Hrec, ⟨%W, HO⟩, Hat, Hc, #Hlev⟩ Hk
  iapply (Rounds.wp_wait_rest_token 𝒱₀ ER (Rd st) (c : Thread nD τ) none (κ := K (barCell c))
      (wpE_semWait_eq 𝒱₀ (c : Thread nD τ) none Set.univ) (Set.mem_univ _) () (O := due (sendDues c)) (W := W) (R := 0) (m := 0) (T := ∅)
      (by rw [expect_bar]; decide)) $$ [Hc HO Hat]
  · isplitr; · iapply (inv_at st K (bar_mem c)); iexact Hrec
    isplitl [Hc]; · iexact Hc
    isplitl [HO]; · iexact HO
    isplitr; · iapply (mayWait_bar c); iexact Hlev
    iexact Hat
  iintro ⟨HO, Hat, -, Hpay⟩
  iapply Hk
  isplitl [HO]; · iexists _; iexact HO
  isplitl [Hat]; · iexact Hat
  rw [← rest_bar st c]; iexact Hpay

/-- What a transfer from `c` to `p` takes: a share of `c`'s pair, `p`'s slot for it, both cells' duties. -/
def sendPre (c p : Dev nD) : sProp 𝕄 :=
  iprop(statLeaf st c p ∗ slotAny p c ∗ reached ER (recvCell p c) 0
    ∗ dutyTok ER (sendCell c p) 0 c ∗ reached ER (sendCell c p) 0 ∗ dutyTok ER (recvCell p c) 0 c)

theorem stat_set : (statM : Memref sig .tc .vmem S2x512 .f32).view.set = Finset.univ := View.set_whole _
theorem stat_read (f : (cc0_scratch0).ty.Contents (Elt F)) : (statM : Memref sig .tc .vmem S2x512 .f32).view.read (Elt F) f = f :=
  View.read_whole _ _
/-- The share a transfer reads, as the transfer names it. -/
theorem statLeaf_eq (c p : Dev nD) :
    ((statM : Memref sig .tc .vmem S2x512 .f32).view.loc (c : Thread nD τ) ↦[(statM : Memref sig .tc .vmem S2x512 .f32).view.set]{leaf 3 fullShare p} (st c) : sProp 𝕄)
      = statLeaf st c p := by
  unfold statLeaf; rw [stat_set]

theorem wp_give {α : Type} {Q : α → sProp 𝕄} {k : PUnit → Prog (TpuEff nD τ sig (Elt F) Λ₀ .tc) α}
    (c p d : Dev nD) (hd : d = p) (l : List (GSem nD τ sig × ℕ)) (slot : Memref sig .tc .vmem S2x512 .f32) (hslot : slot = slotM c)
    (sS rS : DmaSem sig) (hs : sS = sendS p) (hr : rS = recvS c)
    {hsc : (slot : Memref sig (Dev.tc d : Thread nD τ).2.kind .vmem S2x512 .f32).view.ref.isScScratch = false}
    {hsrc : (statM : Memref sig .tc .vmem S2x512 .f32).view.WordExact} {hdst : slot.view.WordExact}
    {hsem : DmaTarget.Typed .vmem (.dma rS) (.remote (Dev.tc d : Thread nD τ) slot (.dma sS) hsc)} :
    iprop(records st K ∗ owing c (due ((recvCell p c, N) :: l)) ∗ sendPre st c p)
      ⊢ iprop(((owing c (due l) ∗ cred (tallyAt (sendCell c p) () N))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma statM (.remote (Dev.tc d : Thread nD τ) slot (.dma sS) hsc) (.dma rS) hsrc hdst hsem) k) Q) := by
  subst hd; subst hslot; subst hs; subst hr
  unfold owing sendPre slotAny
  iintro ⟨#Hrec, ⟨%W, HO⟩, Hst, ⟨%f, Hslot⟩, #Hrr, Hts, #Hrs, Htr⟩ Hk
  iapply (Rounds.wp_send_pointsTo 𝒱₀ ER (Rd st) (c : Thread nD τ) none (c' := (d : Thread nD τ)) (src := statM) (dst := slotM c)
      (sS := .dma (sendS d)) (sem := .dma (recvS c)) (q := leaf 3 fullShare d) (fs := st c) (κ₁ := K (sendCell c d)) (κ₂ := K (recvCell d c))
      (r₁ := 0) (r₂ := 0) (d₁ := c) (d₂ := c) (fd := f)
      (by rw [duties_send]; exact Finset.mem_singleton_self _) (by rw [duties_recv]; exact Finset.mem_singleton_self _)
      () () N rfl (amount_send st c d c) (amount_recv st d c c) (due l) rfl (W := W)
      (by rw [payload_send]; exact Entails.of_eq (statLeaf_eq st c d))
      (by rw [payload_recv, stat_read]; exact Entails.of_eq (slot_landed d c st f))) $$ [HO Hst Hslot Hts Htr]
  · isplitr; · iapply (inv_at st K (send_mem c d)); iexact Hrec
    isplitr; · iapply (inv_at st K (recv_mem d c)); iexact Hrec
    isplitl [Hst]; · iapply (Entails.of_eq (statLeaf_eq st c d).symm); iexact Hst
    isplitl [Hslot]; · iexact Hslot
    isplitl [HO]; · iexact HO
    isplitl [Hts]; · iexact Hts
    isplitr; · iexact Hrs
    isplitl [Htr]; · iexact Htr
    iexact Hrr
  iintro ⟨Hc, HO⟩
  iapply Hk
  isplitl [HO]; · iexists W; iexact HO
  iexact Hc

/-- The wait for `q`'s pair. -/
theorem wp_taken {α : Type} {Q : α → sProp 𝕄} {k : PUnit → Prog (TpuEff nD τ sig (Elt F) Λ₀ .tc) α}
    (c q : Dev nD) (rS : DmaSem sig) (hr : rS = recvS q) {src : Memref sig .tc .vmem S2x512 .f32} {dst : Memref sig .tc .vmem S2x512 .f32}
    (hdst : dst.view.dmaCredit = N) {hsrc : src.view.WordExact} {hdw : dst.view.WordExact} :
    iprop(records st K ∗ owing c (due []) ∗ at0 (recvCell c q) ∗ cred (tallyAt (recvCell c q) () N))
      ⊢ iprop(((owing c (due []) ∗ at1 (recvCell c q) ∗ slotFull st c q)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS src dst hsrc hdw) k) Q) := by
  subst hr
  unfold owing at0 at1
  iintro ⟨#Hrec, ⟨%W, HO⟩, Hat, Hc⟩ Hk
  iapply (Rounds.wp_wait_rest_token 𝒱₀ ER (Rd st) (c : Thread nD τ) none (κ := K (recvCell c q))
      (wpE_waitDma2_eq 𝒱₀ (c : Thread nD τ) none Set.univ) (Set.mem_univ _) () (O := due []) (W := W) (R := 0) (m := 0) (T := ∅)
      (by rw [Nat.zero_add, expect_recv, hdst])) $$ [Hc HO Hat]
  · isplitr; · iapply (inv_at st K (recv_mem c q)); iexact Hrec
    isplitl [Hc]; · rw [hdst]; iexact Hc
    isplitl [HO]; · iexact HO
    isplitr; · unfold due; rw [MayWait_zero]; iempintro
    iexact Hat
  iintro ⟨HO, Hat, -, Hpay⟩
  iapply Hk
  isplitl [HO]; · iexists _; iexact HO
  isplitl [Hat]; · iexact Hat
  rw [← rest_recv st c q]; iexact Hpay

/-- The wait for the transfer to `p` to have read `c`'s pair. -/
theorem wp_given {α : Type} {Q : α → sProp 𝕄} {k : PUnit → Prog (TpuEff nD τ sig (Elt F) Λ₀ .tc) α}
    (c p : Dev nD) (sS : DmaSem sig) (hs : sS = sendS p) {src : Memref sig .tc .vmem S2x512 .f32} {dst : Memref sig .tc .vmem S2x512 .f32}
    (hdst : dst.view.dmaCredit = N) {hsrc : src.view.WordExact} {hdw : dst.view.WordExact} :
    iprop(records st K ∗ owing c (due []) ∗ at0 (sendCell c p) ∗ cred (tallyAt (sendCell c p) () N))
      ⊢ iprop(((owing c (due []) ∗ at1 (sendCell c p) ∗ statLeaf st c p)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdw) k) Q) := by
  subst hs
  unfold owing at0 at1
  iintro ⟨#Hrec, ⟨%W, HO⟩, Hat, Hc⟩ Hk
  iapply (Rounds.wp_wait_rest_token 𝒱₀ ER (Rd st) (c : Thread nD τ) none (κ := K (sendCell c p))
      (wpE_waitDma2_eq 𝒱₀ (c : Thread nD τ) none Set.univ) (Set.mem_univ _) () (O := due []) (W := W) (R := 0) (m := 0) (T := ∅)
      (by rw [Nat.zero_add, expect_send, hdst])) $$ [Hc HO Hat]
  · isplitr; · iapply (inv_at st K (send_mem c p)); iexact Hrec
    isplitl [Hc]; · rw [hdst]; iexact Hc
    isplitl [HO]; · iexact HO
    isplitr; · unfold due; rw [MayWait_zero]; iempintro
    iexact Hat
  iintro ⟨HO, Hat, -, Hpay⟩
  iapply Hk
  isplitl [HO]; · iexists _; iexact HO
  isplitl [Hat]; · iexact Hat
  rw [← rest_send st c p]; iexact Hpay

end Effects

end Cert.Exchange
-- ==== Proof.Phases.lean ====
/-
# The exchange, phase by phase

The four rules of the exchange applied in turn. Each phase carries one assertion that says how many of its steps are
done, so a step takes the assertion at `n` to the one at `n + 1`; around the phases, what their ends give is regrouped
into what the next one starts from.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (st : Dev nD → Vec F S2x512 .f32) (K : GSem nD τ sig → ℕ)

/-! ## Done and left -/

section Split

/-- `Φ` at the indices from `k` on, and at those below it. -/
def left {n : ℕ} (Φ : Fin n → sProp 𝕄) (k : ℕ) : sProp 𝕄 := bigSep (Finset.univ.filter fun q : Fin n => k ≤ q.val) Φ
def done {n : ℕ} (Φ : Fin n → sProp 𝕄) (k : ℕ) : sProp 𝕄 := bigSep (Finset.univ.filter fun q : Fin n => q.val < k) Φ

theorem left_zero {n : ℕ} (Φ : Fin n → sProp 𝕄) : left Φ 0 = bigSep Finset.univ Φ := by
  unfold left; rw [Finset.filter_true_of_mem fun _ _ => Nat.zero_le _]
theorem done_zero {n : ℕ} (Φ : Fin n → sProp 𝕄) : done Φ 0 = (iprop(emp) : sProp 𝕄) := by
  unfold done; rw [Finset.filter_false_of_mem fun _ _ => Nat.not_lt_zero _, bigSep_empty]; rfl
theorem done_all {n : ℕ} (Φ : Fin n → sProp 𝕄) : done Φ n = bigSep Finset.univ Φ := by
  unfold done; rw [Finset.filter_true_of_mem fun q _ => q.isLt]
theorem left_step {n : ℕ} (Φ : Fin n → sProp 𝕄) (q : Fin n) : left Φ q.val = iprop(Φ q ∗ left Φ (q.val + 1)) := by
  unfold left
  have h : (Finset.univ.filter fun r : Fin n => q.val ≤ r.val) = insert q (Finset.univ.filter fun r : Fin n => q.val + 1 ≤ r.val) := by
    ext r
    simp only [Finset.mem_filter, Finset.mem_univ, true_and, Finset.mem_insert, Fin.ext_iff]
    omega
  rw [h, bigSep_insert (by simp only [Finset.mem_filter, Finset.mem_univ, true_and]; omega)]
  rfl
theorem done_step {n : ℕ} (Φ : Fin n → sProp 𝕄) (q : Fin n) : done Φ (q.val + 1) = iprop(Φ q ∗ done Φ q.val) := by
  unfold done
  have h : (Finset.univ.filter fun r : Fin n => r.val < q.val + 1) = insert q (Finset.univ.filter fun r : Fin n => r.val < q.val) := by
    ext r
    simp only [Finset.mem_filter, Finset.mem_univ, true_and, Finset.mem_insert, Fin.ext_iff]
    omega
  rw [h, bigSep_insert (by simp only [Finset.mem_filter, Finset.mem_univ, true_and]; omega)]
  rfl

end Split

/-! ## The signals -/

/-- The device `c` signals in its `j`-th signal: the one `j + 1` places after it. -/
def peer (c : Dev nD) (j : Fin 7) : Dev nD := c + ⟨j.val + 1, Nat.succ_lt_succ j.isLt⟩

theorem peer_ne (c : Dev nD) (j : Fin 7) : peer c j ≠ c := by revert c j; decide
def peerEmb (c : Dev nD) : Fin 7 ↪ Dev nD := ⟨peer c, by revert c; decide⟩
theorem peers_eq (c : Dev nD) : (Finset.univ.map (peerEmb c)) = Finset.univ.erase c := by revert c; decide
theorem bigSep_peers (c : Dev nD) (Φ : Dev nD → sProp 𝕄) :
    bigSep (Finset.univ.erase c) Φ = bigSep Finset.univ fun j => Φ (peer c j) := by
  rw [← peers_eq, bigSep_map]; rfl

theorem allDues_drop (c : Dev nD) (j : Fin 7) :
    (allDues c).drop j.val = (barCell (peer c j), 1) :: (allDues c).drop (j.val + 1) := by
  revert j; intro ⟨j, hj⟩
  match j, hj with
  | 0, _ | 1, _ | 2, _ | 3, _ | 4, _ | 5, _ | 6, _ => rfl
theorem sendDues_drop (c p : Dev nD) : (sendDues c).drop p.val = (recvCell p c, N) :: (sendDues c).drop (p.val + 1) := by
  obtain ⟨p, hp⟩ := p
  match p, hp with
  | 0, _ | 1, _ | 2, _ | 3, _ | 4, _ | 5, _ | 6, _ | 7, _ => rfl

/-- What the signal to `n` takes besides the debt. -/
def tellPre (c n : Dev nD) : sProp 𝕄 := iprop(dutyTok ER (barCell n) 0 c ∗ slotAny c n ∗ reached ER (recvCell c n) 0)

def telling (c : Dev nD) (k : ℕ) : sProp 𝕄 :=
  iprop(records st K ∗ owing c (due ((allDues c).drop k)) ∗ left (fun j => tellPre c (peer c j)) k)

theorem wp_tells {α : Type} {Q : α → sProp 𝕄} {k : PUnit → Prog (TpuEff nD τ sig (Elt F) Λ₀ .tc) α}
    (c d : Dev nD) (j : Fin 7) (hd : d = peer c j) (n m : ℕ) (hn : n = j.val) (hm : m = j.val + 1) :
    telling st K c n ⊢ iprop((telling st K c m -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (d, .tc) barS (1#32).toInt) k) Q) := by
  subst hn; subst hm
  unfold telling
  rw [left_step _ j, allDues_drop c j]
  unfold tellPre
  iintro ⟨#Hrec, HO, ⟨Htok, Hslot, Hr⟩, Hleft⟩ Hk
  iapply (wp_tell st K c (peer c j) d hd (peer_ne c j) ((allDues c).drop (j.val + 1))) $$ [HO Htok Hslot Hr]
  · isplitr; · iexact Hrec
    isplitl [HO]; · iexact HO
    isplitl [Htok]; · iexact Htok
    isplitl [Hslot] <;> iassumption
  iintro HO
  iapply Hk
  isplitr; · iexact Hrec
  isplitl [HO] <;> iassumption

/-! ## The transfers -/

def giving (c : Dev nD) (k : ℕ) : sProp 𝕄 :=
  iprop(records st K ∗ owing c (due ((sendDues c).drop k)) ∗ left (sendPre st c) k
    ∗ done (fun p => cred (tallyAt (sendCell c p) () N)) k)

theorem wp_gives {α : Type} {Q : α → sProp 𝕄} {k : PUnit → Prog (TpuEff nD τ sig (Elt F) Λ₀ .tc) α}
    (c p d : Dev nD) (hd : d = p) (n m : ℕ) (hn : n = p.val) (hm : m = p.val + 1) (slot : Memref sig .tc .vmem S2x512 .f32) (hslot : slot = slotM c)
    (sS rS : DmaSem sig) (hs : sS = sendS p) (hr : rS = recvS c)
    {hsc : (slot : Memref sig (Dev.tc d : Thread nD τ).2.kind .vmem S2x512 .f32).view.ref.isScScratch = false}
    {hsrc : (statM : Memref sig .tc .vmem S2x512 .f32).view.WordExact} {hdst : slot.view.WordExact}
    {hsem : DmaTarget.Typed .vmem (.dma rS) (.remote (Dev.tc d : Thread nD τ) slot (.dma sS) hsc)} :
    giving st K c n ⊢ iprop((giving st K c m -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma statM (.remote (Dev.tc d : Thread nD τ) slot (.dma sS) hsc) (.dma rS) hsrc hdst hsem) k) Q) := by
  subst hn; subst hm
  unfold giving
  rw [left_step _ p, done_step _ p, sendDues_drop c p]
  iintro ⟨#Hrec, HO, ⟨Hpre, Hleft⟩, Hdone⟩ Hk
  iapply (wp_give st K c p d hd ((sendDues c).drop (p.val + 1)) slot hslot sS rS hs hr) $$ [HO Hpre]
  · isplitr; · iexact Hrec
    isplitl [HO] <;> iassumption
  iintro ⟨HO, Hc⟩
  iapply Hk
  isplitr; · iexact Hrec
  isplitl [HO]; · iexact HO
  isplitl [Hleft]; · iexact Hleft
  isplitl [Hc] <;> iassumption

/-! ## The waits -/

def taking (c : Dev nD) (k : ℕ) : sProp 𝕄 :=
  iprop(records st K ∗ owing c (due []) ∗ left (fun q => iprop(at0 (recvCell c q) ∗ cred (tallyAt (recvCell c q) () N))) k
    ∗ done (fun q => iprop(at1 (recvCell c q) ∗ slotFull st c q)) k)

theorem wp_takes {α : Type} {Q : α → sProp 𝕄} {k : PUnit → Prog (TpuEff nD τ sig (Elt F) Λ₀ .tc) α}
    (c q : Dev nD) (n m : ℕ) (hn : n = q.val) (hm : m = q.val + 1) (rS : DmaSem sig) (hr : rS = recvS q)
    {src : Memref sig .tc .vmem S2x512 .f32} {dst : Memref sig .tc .vmem S2x512 .f32}
    (hdst : dst.view.dmaCredit = N) {hsrc : src.view.WordExact} {hdw : dst.view.WordExact} :
    taking st K c n ⊢ iprop((taking st K c m -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS src dst hsrc hdw) k) Q) := by
  subst hn; subst hm
  unfold taking
  rw [left_step _ q, done_step _ q]
  iintro ⟨#Hrec, HO, ⟨⟨Hat, Hc⟩, Hleft⟩, Hdone⟩ Hk
  iapply (wp_taken st K c q rS hr hdst) $$ [HO Hat Hc]
  · isplitr; · iexact Hrec
    isplitl [HO]; · iexact HO
    isplitl [Hat] <;> iassumption
  iintro ⟨HO, Hat, Hslot⟩
  iapply Hk
  isplitr; · iexact Hrec
  isplitl [HO]; · iexact HO
  isplitl [Hleft]; · iexact Hleft
  isplitl [Hat Hslot]
  · isplitl [Hat] <;> iassumption
  iexact Hdone

def given (c : Dev nD) (k : ℕ) : sProp 𝕄 :=
  iprop(records st K ∗ owing c (due []) ∗ left (fun p => iprop(at0 (sendCell c p) ∗ cred (tallyAt (sendCell c p) () N))) k
    ∗ done (fun p => iprop(at1 (sendCell c p) ∗ statLeaf st c p)) k)

theorem wp_givens {α : Type} {Q : α → sProp 𝕄} {k : PUnit → Prog (TpuEff nD τ sig (Elt F) Λ₀ .tc) α}
    (c p : Dev nD) (n m : ℕ) (hn : n = p.val) (hm : m = p.val + 1) (sS : DmaSem sig) (hs : sS = sendS p)
    {src : Memref sig .tc .vmem S2x512 .f32} {dst : Memref sig .tc .vmem S2x512 .f32}
    (hdst : dst.view.dmaCredit = N) {hsrc : src.view.WordExact} {hdw : dst.view.WordExact} :
    given st K c n ⊢ iprop((given st K c m -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdw) k) Q) := by
  subst hn; subst hm
  unfold given
  rw [left_step _ p, done_step _ p]
  iintro ⟨#Hrec, HO, ⟨⟨Hat, Hc⟩, Hleft⟩, Hdone⟩ Hk
  iapply (wp_given st K c p sS hs hdst) $$ [HO Hat Hc]
  · isplitr; · iexact Hrec
    isplitl [HO]; · iexact HO
    isplitl [Hat] <;> iassumption
  iintro ⟨HO, Hat, Hleaf⟩
  iapply Hk
  isplitr; · iexact Hrec
  isplitl [HO]; · iexact HO
  isplitl [Hleft]; · iexact Hleft
  isplitl [Hat Hleaf]
  · isplitl [Hat] <;> iassumption
  iexact Hdone

/-! ## Between the phases -/

theorem slotAny_intro (c q : Dev nD) (f : (cc0_scratch1).ty.Contents (Elt F)) :
    ((c : Thread nD τ).loc cc0_scratch1 ↦[slotSet q]{fullShare} f : sProp 𝕄) ⊢ slotAny c q := by
  unfold slotAny; iintro H; iexists f; iexact H

/-- The gathering buffer, at whatever it holds, is its eight slots. -/
theorem comm_slots (c : Dev nD) :
    iprop(∃ f : (cc0_scratch1).ty.Contents (Elt F), (c : Thread nD τ).loc cc0_scratch1 ↦{fullShare} f) ⊢ (bigSep Finset.univ (slotAny c) : sProp 𝕄) := by
  iintro ⟨%f, H⟩
  ihave H' := (Entails.of_eq (comm_split c f)) $$ H
  iapply (show (bigSep Finset.univ fun q => ((c : Thread nD τ).loc cc0_scratch1 ↦[slotSet q]{fullShare} f : sProp 𝕄)) ⊢ bigSep Finset.univ (slotAny c) from
    bigSep_mono fun q _ => slotAny_intro c q f)
  iexact H'

/-- Filled, its slots are the buffer holding every device's pair. -/
theorem slots_comm (c : Dev nD) :
    (bigSep Finset.univ (slotFull st c) : sProp 𝕄) = ((c : Thread nD τ).loc cc0_scratch1 ↦{fullShare} gath st) := (comm_split c (gath st)).symm

/-- The pair is its eight shares. -/
theorem stat_leaves (c : Dev nD) :
    ((c : Thread nD τ).loc cc0_scratch0 ↦{fullShare} (st c) : sProp 𝕄) = bigSep Finset.univ (statLeaf st c) :=
  ShareLeaves.pointsTo_leaves _ _ 3 fullShare

/-- The slots for the others go out with the signals; the device keeps its own. -/
theorem ready_tell (c : Dev nD) :
    iprop((∃ f : (cc0_scratch1).ty.Contents (Elt F), (c : Thread nD τ).loc cc0_scratch1 ↦{fullShare} f)
        ∗ (bigSep Finset.univ fun q => reached ER (recvCell c q) 0) ∗ bigSep (Finset.univ.erase c) fun d => dutyTok ER (barCell d) 0 c)
      ⊢ (iprop(left (fun j => tellPre c (peer c j)) 0 ∗ barPay c c) : sProp 𝕄) := by
  rw [left_zero, ← bigSep_peers c (tellPre c)]
  unfold tellPre barPay
  rw [bigSep_sep', bigSep_sep']
  iintro ⟨Hf, #Hr, Ht⟩
  ihave Hs := (comm_slots c) $$ Hf
  ihave Hs' := (show (bigSep Finset.univ (slotAny c) : sProp 𝕄) ⊢ iprop(slotAny c c ∗ bigSep (Finset.univ.erase c) (slotAny c)) from
    Entails.of_eq (bigSep_erase (Finset.mem_univ c))) $$ Hs
  ihave Hr' := (show (bigSep Finset.univ fun q => (reached ER (recvCell c q) 0 : sProp 𝕄))
      ⊢ iprop(reached ER (recvCell c c) 0 ∗ bigSep (Finset.univ.erase c) fun q => reached ER (recvCell c q) 0) from
    Entails.of_eq (bigSep_erase (Finset.mem_univ c))) $$ Hr
  icases Hs' with ⟨Hc, Hs⟩
  icases Hr' with ⟨Hrc, Hr'⟩
  isplitl [Ht Hs Hr']
  · isplitl [Ht]; · iexact Ht
    isplitl [Hs] <;> iassumption
  isplitl [Hc] <;> iassumption

/-- With the others' slots for it and its own, the device has all its transfers need. -/
theorem ready_give (c : Dev nD) :
    iprop(((c : Thread nD τ).loc cc0_scratch0 ↦{fullShare} (st c)) ∗ barPay c c ∗ (bigSep (Finset.univ.erase c) fun d => barPay c d)
        ∗ (bigSep Finset.univ fun p => iprop(dutyTok ER (sendCell c p) 0 c ∗ reached ER (sendCell c p) 0))
        ∗ bigSep Finset.univ fun p => dutyTok ER (recvCell p c) 0 c)
      ⊢ (left (sendPre st c) 0 : sProp 𝕄) := by
  rw [left_zero, stat_leaves]
  unfold sendPre
  rw [bigSep_sep', bigSep_sep', bigSep_sep', bigSep_sep', bigSep_sep', bigSep_sep']
  iintro ⟨Hst, Hc, He, ⟨Hts, Hrs⟩, Htr⟩
  ihave Hp := (show iprop(barPay c c ∗ bigSep (Finset.univ.erase c) fun d => barPay c d) ⊢ (bigSep Finset.univ fun d => barPay c d : sProp 𝕄) from
    Entails.of_eq (bigSep_erase (Finset.mem_univ c)).symm) $$ [Hc He]
  · isplitl [Hc] <;> iassumption
  unfold barPay
  ihave Hp' := (show (bigSep Finset.univ fun d => iprop(slotAny d c ∗ reached ER (recvCell d c) 0) : sProp 𝕄)
      ⊢ iprop((bigSep Finset.univ fun d => slotAny d c) ∗ bigSep Finset.univ fun d => reached ER (recvCell d c) 0) from
    Entails.of_eq (bigSep_sep' _ _ _)) $$ Hp
  icases Hp' with ⟨Hs, Hr⟩
  isplitl [Hst]; · iexact Hst
  isplitl [Hs]; · iexact Hs
  isplitl [Hr]; · iexact Hr
  isplitl [Hts]; · iexact Hts
  isplitl [Hrs] <;> iassumption

/-- A row of cells whose rounds are over closes. -/
theorem close_row {n : ℕ} (g : Fin n → GSem nD τ sig) (hg : ∀ q, g q ∈ barCells ∪ scCells) :
    iprop(records st K ∗ bigSep Finset.univ fun q => at1 (g q)) ⊢ (|={Set.univ}=> bigSep Finset.univ fun q => semVal (g q) 0 : sProp 𝕄) :=
  (bigSep_with_persistent (R := records st K) fun q _ => close_cell st K (hg q)).trans (bigSep_fupd _ _)

end Cert.Exchange
-- ==== Proof.Body.lean ====
/-
# The kernel's body

One device's body run from what the launch gives it to its block of the result: the signals, the sums, the exchange, the
closing of its cells, the result.
-/
module

public import proofs.«01_k».proof.Proof.Phases

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (st : Dev nD → Vec F S2x512 .f32) (K : GSem nD τ sig → ℕ)

/-! ## Into and out of the phases -/

theorem tell_intro (c : Dev nD) :
    iprop(records st K ∗ owing c (O₀ c) ∗ left (fun j => tellPre c (peer c j)) 0) ⊢ telling st K c 0 := Entails.refl _
theorem tell_elim (c : Dev nD) : telling st K c 7 ⊢ owing c (due (sendDues c)) := by
  unfold telling
  iintro ⟨-, HO, -⟩
  iexact HO

theorem give_intro (c : Dev nD) : iprop(records st K ∗ owing c (due (sendDues c)) ∗ left (sendPre st c) 0) ⊢ giving st K c 0 := by
  unfold giving
  rw [done_zero]
  iintro ⟨#Hr, HO, Hl⟩
  isplitr; · iexact Hr
  isplitl [HO]; · iexact HO
  isplitl [Hl]; · iexact Hl
  iempintro
theorem give_elim (c : Dev nD) : giving st K c 8 ⊢ iprop(owing c (due []) ∗ bigSep Finset.univ fun p => cred (tallyAt (sendCell c p) () N)) := by
  unfold giving
  rw [show done (fun p : Dev nD => (cred (tallyAt (sendCell c p) () N) : sProp 𝕄)) 8 = _ from done_all (n := 8) _]
  iintro ⟨-, HO, -, Hd⟩
  isplitl [HO]; · iexact HO
  iexact Hd

theorem take_intro (c : Dev nD) :
    iprop(records st K ∗ owing c (due []) ∗ (bigSep Finset.univ fun q => at0 (recvCell c q)) ∗ bigSep Finset.univ fun q => cred (tallyAt (recvCell c q) () N))
      ⊢ taking st K c 0 := by
  unfold taking
  rw [done_zero, left_zero, bigSep_sep']
  iintro ⟨#Hr, HO, Ha, Hc⟩
  isplitr; · iexact Hr
  isplitl [HO]; · iexact HO
  isplitl [Ha Hc]; · isplitl [Ha] <;> iassumption
  iempintro
theorem take_elim (c : Dev nD) :
    taking st K c 8 ⊢ iprop(owing c (due []) ∗ (bigSep Finset.univ fun q => at1 (recvCell c q)) ∗ ((c : Thread nD τ).loc cc0_scratch1 ↦{fullShare} gath st)) := by
  unfold taking
  rw [show done (fun q : Dev nD => (iprop(at1 (recvCell c q) ∗ slotFull st c q) : sProp 𝕄)) 8 = _ from done_all (n := 8) _, bigSep_sep', ← slots_comm]
  iintro ⟨-, HO, -, Hd⟩
  isplitl [HO] <;> iassumption

theorem given_intro (c : Dev nD) :
    iprop(records st K ∗ owing c (due []) ∗ (bigSep Finset.univ fun p => at0 (sendCell c p)) ∗ bigSep Finset.univ fun p => cred (tallyAt (sendCell c p) () N))
      ⊢ given st K c 0 := by
  unfold given
  rw [done_zero, left_zero, bigSep_sep']
  iintro ⟨#Hr, HO, Ha, Hc⟩
  isplitr; · iexact Hr
  isplitl [HO]; · iexact HO
  isplitl [Ha Hc]; · isplitl [Ha] <;> iassumption
  iempintro
theorem given_elim (c : Dev nD) :
    given st K c 8 ⊢ iprop(owing c (due []) ∗ (bigSep Finset.univ fun p => at1 (sendCell c p)) ∗ ((c : Thread nD τ).loc cc0_scratch0 ↦{fullShare} (st c))) := by
  unfold given
  rw [show done (fun p : Dev nD => (iprop(at1 (sendCell c p) ∗ statLeaf st c p) : sProp 𝕄)) 8 = _ from done_all (n := 8) _, bigSep_sep', stat_leaves]
  iintro ⟨-, HO, -, Hd⟩
  isplitl [HO] <;> iassumption

/-! ## What a device starts from -/

/-- The protocol's ghost state, every cell open. -/
def opened (c : Dev nD) : sProp 𝕄 :=
  iprop(records st K ∗ at0 (barCell c)
    ∗ (bigSep Finset.univ fun p => at0 (sendCell c p)) ∗ (bigSep Finset.univ fun p => reached ER (sendCell c p) 0)
    ∗ (bigSep Finset.univ fun q => at0 (recvCell c q)) ∗ (bigSep Finset.univ fun q => reached ER (recvCell c q) 0)
    ∗ (bigSep Finset.univ fun p => dutyTok ER (sendCell c p) 0 c) ∗ (bigSep Finset.univ fun p => dutyTok ER (recvCell p c) 0 c)
    ∗ bigSep (Finset.univ.erase c) fun d => dutyTok ER (barCell d) 0 c)

/-- The credit it waits with. -/
def credits (c : Dev nD) : sProp 𝕄 :=
  iprop(cred (tallyAt (barCell c) () 7) ∗ bigSep Finset.univ fun q => cred (tallyAt (recvCell c q) () N))

/-- A buffer of device `c`'s at some contents. -/
def someAt (c : Dev nD) (b : Ref sig .tc) : sProp 𝕄 := iprop(∃ f : b.ty.Contents (Elt F), (c : Thread nD τ).loc b ↦{fullShare} f)

/-- The result block of a device: its block of `x`, normalized by what the gathering buffer holds, scaled and shifted. -/
def outOf (x : Vec F S512x256 .bf16) (g b : Vec F S1x256 .bf16) (comm : Vec F S8x2x512 .f32) : Vec F S512x256 .bf16 :=
  k0_pay1 (k0_pay2 x) (k0_pay6 comm) (k0_pay7 comm) k0_pay8 g b

/-! ## Reading and writing whole buffers -/

theorem zero2 : (![0, 0] : Fin 2 → ℕ) = fun _ => 0 := funext fun a => by fin_cases a <;> rfl
theorem zero3 : (![0, 0, 0] : Fin 3 → ℕ) = fun _ => 0 := funext fun a => by fin_cases a <;> rfl

/-- A load that is known to read `v`. -/
theorem wp_load_as {α : Type} {Q : α → sProp 𝕄} (c : Dev nD) {cs : CoreSpace} {s : Shape} {e : EltTy} {m : Memref sig .tc cs s e} {r : LoadRect s}
    {hl : m.view.LoadsAt r} {k : (r.shape.Idx → Elt F e) → Prog (TpuEff nD τ sig (Elt F) Λ₀ .tc) α} {f : Buf (Elt F) (m.view.loc (c : Thread nD τ))}
    {v : r.shape.Idx → Elt F e} (hv : m.view.readAt (Elt F) r f = v) :
    (m.view.loc (c : Thread nD τ) ↦{fullShare} f : sProp 𝕄)
      ⊢ iprop(((m.view.loc (c : Thread nD τ) ↦{fullShare} f) -∗ wp frame (wpE (defs₀ (F := F)) 𝒱₀ (c : Thread nD τ) none) Set.univ (k v) Q)
          -∗ wp frame (wpE (defs₀ (F := F)) 𝒱₀ (c : Thread nD τ) none) Set.univ (.op (.load m r hl) k) Q) := by
  subst hv
  exact wp_load 𝒱₀ (c : Thread nD τ) none Set.univ (Finset.subset_univ _)

/-- A store that is known to leave `g`. -/
theorem wp_store_as {α : Type} {Q : α → sProp 𝕄} (c : Dev nD) {cs : CoreSpace} {s : Shape} {e : EltTy} {m : Memref sig .tc cs s e} {r : Rect s}
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} {f g : Buf (Elt F) ((m.access r).loc (c : Thread nD τ))}
    (hg : (m.access r).write (Elt F) f w Finset.univ = g) :
    ((m.access r).loc (c : Thread nD τ) ↦{fullShare} f : sProp 𝕄)
      ⊢ iprop((((m.access r).loc (c : Thread nD τ) ↦{fullShare} g) -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  subst hg
  exact wp_store 𝒱₀ (c : Thread nD τ) none Set.univ (Finset.subset_univ _)

/-! ## The run -/

def bodyPre (x : Dev nD → Vec F S512x256 .bf16) (g b : Vec F S1x256 .bf16) (c : Dev nD) : sProp 𝕄 :=
  iprop(opened (fun d => statOf (x d)) K c ∗ credits c ∗ levAts L lv ∗ someAt c cc0_scratch0 ∗ someAt c cc0_scratch1 ∗ owing c (O₀ c)
    ∗ ((c : Thread nD τ).loc cc0_stg0_0 ↦{fullShare} (x c)) ∗ ((c : Thread nD τ).loc cc0_stg1_0 ↦{fullShare} g)
    ∗ ((c : Thread nD τ).loc cc0_stg2_0 ↦{fullShare} b) ∗ someAt c cc0_stg3_0)

def bodyPost (x : Dev nD → Vec F S512x256 .bf16) (g b : Vec F S1x256 .bf16) (c : Dev nD) : sProp 𝕄 :=
  iprop(semVal (barCell c) 0 ∗ (bigSep Finset.univ fun p => semVal (sendCell c p) 0) ∗ (bigSep Finset.univ fun q => semVal (recvCell c q) 0)
    ∗ someAt c cc0_scratch0 ∗ someAt c cc0_scratch1 ∗ owing c 0
    ∗ ((c : Thread nD τ).loc cc0_stg0_0 ↦{fullShare} (x c)) ∗ ((c : Thread nD τ).loc cc0_stg1_0 ↦{fullShare} g)
    ∗ ((c : Thread nD τ).loc cc0_stg2_0 ↦{fullShare} b)
    ∗ ((c : Thread nD τ).loc cc0_stg3_0 ↦{fullShare} outOf (x c) g b (gath fun d => statOf (x d))))

set_option maxHeartbeats 4000000 in
set_option maxRecDepth 65536 in
theorem body_run (x : Dev nD → Vec F S512x256 .bf16) (g b : Vec F S1x256 .bf16) (c : Dev nD) (Kt : PUnit → sProp 𝕄) :
    iprop(bodyPre K x g b c ∗ (bodyPost x g b c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold bodyPre opened credits someAt
  iintro ⟨⟨⟨#Hrec, HatB, HatS, #HrS, HatR, #HrR, HtS, HtR, HtB⟩, ⟨HcB, HcR⟩, #Hlev, ⟨%f0, Hst⟩, Hcomm, HO, Hx, Hg, Hb, ⟨%fo, Hout⟩⟩, Hk⟩
  ihave Ht := (ready_tell c) $$ [Hcomm HtB]
  · isplitl [Hcomm]; · iexact Hcomm
    isplitr; · iexact HrR
    iexact HtB
  icases Ht with ⟨Hl, Hown⟩
  ihave H := (tell_intro (fun d => statOf (x d)) K c) $$ [HO Hl]
  · isplitr; · iexact Hrec
    isplitl [HO] <;> iassumption
  iapply (wp_tells (fun d => statOf (x d)) K c _ 0 (by revert c; decide) 0 1 rfl rfl) $$ H; iintro H
  iapply (wp_tells (fun d => statOf (x d)) K c _ 1 (by revert c; decide) 1 2 rfl rfl) $$ H; iintro H
  iapply (wp_tells (fun d => statOf (x d)) K c _ 2 (by revert c; decide) 2 3 rfl rfl) $$ H; iintro H
  iapply (wp_tells (fun d => statOf (x d)) K c _ 3 (by revert c; decide) 3 4 rfl rfl) $$ H; iintro H
  iapply (wp_tells (fun d => statOf (x d)) K c _ 4 (by revert c; decide) 4 5 rfl rfl) $$ H; iintro H
  iapply (wp_tells (fun d => statOf (x d)) K c _ 5 (by revert c; decide) 5 6 rfl rfl) $$ H; iintro H
  iapply (wp_tells (fun d => statOf (x d)) K c _ 6 (by revert c; decide) 6 7 rfl rfl) $$ H; iintro H
  ihave HO := (tell_elim (fun d => statOf (x d)) K c) $$ H
  -- the block's sums, one row each
  iapply (wp_load_as c (Memref.readAt_unit_zero (Elt F) cc0_stg0_0 zero2 _ (x c))) $$ Hx; iintro Hx
  iapply (wp_load 𝒱₀ (c : Thread nD τ) none Set.univ (m := statM) (Finset.subset_univ _)) $$ Hst; iintro Hst
  iapply (wp_store 𝒱₀ (c : Thread nD τ) none Set.univ (m := statM) (r := Rect.unit (s := S2x512) ![0, 0] S1x512.size inb_S2x512_S1x512_0_0)
      (Mk := Finset.univ) (Finset.subset_univ _)) $$ Hst; iintro Hst
  iapply (wp_load 𝒱₀ (c : Thread nD τ) none Set.univ (m := statM) (Finset.subset_univ _)) $$ Hst; iintro Hst
  iapply (wp_store_as c (stat_write f0 (x c))) $$ Hst; iintro Hst
  -- the others' slots
  iapply (wp_gathered (fun d => statOf (x d)) K c) $$ [HO HatB HcB]
  · isplitr; · iexact Hrec
    isplitl [HO]; · iexact HO
    isplitl [HatB]; · iexact HatB
    isplitl [HcB]; · iexact HcB
    iexact Hlev
  iintro ⟨HO, HatB, Hpay⟩
  -- the transfers
  ihave Hl := (ready_give (fun d => statOf (x d)) c) $$ [Hst Hown Hpay HtS HtR]
  · isplitl [Hst]; · iexact Hst
    isplitl [Hown]; · iexact Hown
    isplitl [Hpay]; · iexact Hpay
    isplitl [HtS]
    · rw [bigSep_sep']
      isplitl [HtS]; · iexact HtS
      iexact HrS
    iexact HtR
  ihave H := (give_intro (fun d => statOf (x d)) K c) $$ [HO Hl]
  · isplitr; · iexact Hrec
    isplitl [HO] <;> iassumption
  iapply (wp_gives (fun d => statOf (x d)) K c 0 _ (by revert c; decide) 0 1 rfl rfl _ (slot_own c) _ _ rfl (recv_own c)) $$ H; iintro H
  iapply (wp_gives (fun d => statOf (x d)) K c 1 _ (by revert c; decide) 1 2 rfl rfl _ (slot_own c) _ _ rfl (recv_own c)) $$ H; iintro H
  iapply (wp_gives (fun d => statOf (x d)) K c 2 _ (by revert c; decide) 2 3 rfl rfl _ (slot_own c) _ _ rfl (recv_own c)) $$ H; iintro H
  iapply (wp_gives (fun d => statOf (x d)) K c 3 _ (by revert c; decide) 3 4 rfl rfl _ (slot_own c) _ _ rfl (recv_own c)) $$ H; iintro H
  iapply (wp_gives (fun d => statOf (x d)) K c 4 _ (by revert c; decide) 4 5 rfl rfl _ (slot_own c) _ _ rfl (recv_own c)) $$ H; iintro H
  iapply (wp_gives (fun d => statOf (x d)) K c 5 _ (by revert c; decide) 5 6 rfl rfl _ (slot_own c) _ _ rfl (recv_own c)) $$ H; iintro H
  iapply (wp_gives (fun d => statOf (x d)) K c 6 _ (by revert c; decide) 6 7 rfl rfl _ (slot_own c) _ _ rfl (recv_own c)) $$ H; iintro H
  iapply (wp_gives (fun d => statOf (x d)) K c 7 _ (by revert c; decide) 7 8 rfl rfl _ (slot_own c) _ _ rfl (recv_own c)) $$ H; iintro H
  ihave H' := (give_elim (fun d => statOf (x d)) K c) $$ H
  icases H' with ⟨HO, HcS⟩
  -- the waits for the others' pairs
  ihave H := (take_intro (fun d => statOf (x d)) K c) $$ [HO HatR HcR]
  · isplitr; · iexact Hrec
    isplitl [HO]; · iexact HO
    isplitl [HatR] <;> iassumption
  iapply (wp_takes (fun d => statOf (x d)) K c 0 0 1 rfl rfl _ rfl (N_slot 0)) $$ H; iintro H
  iapply (wp_takes (fun d => statOf (x d)) K c 1 1 2 rfl rfl _ rfl (N_slot 1)) $$ H; iintro H
  iapply (wp_takes (fun d => statOf (x d)) K c 2 2 3 rfl rfl _ rfl (N_slot 2)) $$ H; iintro H
  iapply (wp_takes (fun d => statOf (x d)) K c 3 3 4 rfl rfl _ rfl (N_slot 3)) $$ H; iintro H
  iapply (wp_takes (fun d => statOf (x d)) K c 4 4 5 rfl rfl _ rfl (N_slot 4)) $$ H; iintro H
  iapply (wp_takes (fun d => statOf (x d)) K c 5 5 6 rfl rfl _ rfl (N_slot 5)) $$ H; iintro H
  iapply (wp_takes (fun d => statOf (x d)) K c 6 6 7 rfl rfl _ rfl (N_slot 6)) $$ H; iintro H
  iapply (wp_takes (fun d => statOf (x d)) K c 7 7 8 rfl rfl _ rfl (N_slot 7)) $$ H; iintro H
  ihave H' := (take_elim (fun d => statOf (x d)) K c) $$ H
  icases H' with ⟨HO, HatR, Hcomm⟩
  -- the waits for the own pair to have been read
  ihave H := (given_intro (fun d => statOf (x d)) K c) $$ [HO HatS HcS]
  · isplitr; · iexact Hrec
    isplitl [HO]; · iexact HO
    isplitl [HatS] <;> iassumption
  iapply (wp_givens (fun d => statOf (x d)) K c 0 0 1 rfl rfl _ rfl rfl) $$ H; iintro H
  iapply (wp_givens (fun d => statOf (x d)) K c 1 1 2 rfl rfl _ rfl rfl) $$ H; iintro H
  iapply (wp_givens (fun d => statOf (x d)) K c 2 2 3 rfl rfl _ rfl rfl) $$ H; iintro H
  iapply (wp_givens (fun d => statOf (x d)) K c 3 3 4 rfl rfl _ rfl rfl) $$ H; iintro H
  iapply (wp_givens (fun d => statOf (x d)) K c 4 4 5 rfl rfl _ rfl rfl) $$ H; iintro H
  iapply (wp_givens (fun d => statOf (x d)) K c 5 5 6 rfl rfl _ rfl rfl) $$ H; iintro H
  iapply (wp_givens (fun d => statOf (x d)) K c 6 6 7 rfl rfl _ rfl rfl) $$ H; iintro H
  iapply (wp_givens (fun d => statOf (x d)) K c 7 7 8 rfl rfl _ rfl rfl) $$ H; iintro H
  ihave H' := (given_elim (fun d => statOf (x d)) K c) $$ H
  icases H' with ⟨HO, HatS, Hst⟩
  -- the cells close
  imod (close_cell (fun d => statOf (x d)) K (bar_mem c)) $$ [HatB] with HzB
  · isplitr; · iexact Hrec
    iexact HatB
  imod (close_row (fun d => statOf (x d)) K (fun p => sendCell c p) (send_mem c)) $$ [HatS] with HzS
  · isplitr; · iexact Hrec
    iexact HatS
  imod (close_row (fun d => statOf (x d)) K (fun q => recvCell c q) (recv_mem c)) $$ [HatR] with HzR
  · isplitr; · iexact Hrec
    iexact HatR
  -- the result
  iapply (wp_load_as c (Memref.readAt_unit_zero (Elt F) cc0_scratch1 zero3 _ (gath (fun d => statOf (x d))))) $$ Hcomm; iintro Hcomm
  iapply (wp_load_as c (Memref.readAt_unit_zero (Elt F) cc0_stg1_0 zero2 _ g)) $$ Hg; iintro Hg
  iapply (wp_load_as c (Memref.readAt_unit_zero (Elt F) cc0_stg2_0 zero2 _ b)) $$ Hb; iintro Hb
  iapply (wp_load_as c (Memref.readAt_unit_zero (Elt F) cc0_stg3_0 zero2 _ fo)) $$ Hout; iintro Hout
  iapply (wp_store_as c (m := (Memref.whole cc0_stg3_0 : Memref sig .tc .vmem S512x256 .bf16))
      (r := Rect.unit (s := S512x256) ![0, 0] S512x256.size inb_S512x256_S512x256_0_0)
      (Memref.write_access_unit_zero_univ (Elt F) cc0_stg3_0 zero2 _ fo (outOf (x c) g b (gath (fun d => statOf (x d)))))) $$ Hout; iintro Hout
  rw [wp_ret]; imodintro
  iapply Hk
  unfold bodyPost someAt
  isplitl [HzB]; · iexact HzB
  isplitl [HzS]; · iexact HzS
  isplitl [HzR]; · iexact HzR
  isplitl [Hst]; · iexists _; iexact Hst
  isplitl [Hcomm]; · iexists _; iexact Hcomm
  isplitl [HO]; · iexact HO
  isplitl [Hx]; · iexact Hx
  isplitl [Hg]; · iexact Hg
  isplitl [Hb]; · iexact Hb
  iexact Hout

end Cert.Exchange
-- ==== Proof.Region.lean ====
/-
# The kernel's call as one region

What the call's windows hold before and after its one grid point, the body's obligation to the pipeline, and the region
the call is in @main.
-/
module

public import proofs.«01_k».proof.Proof.Body
public import proofs.«01_k».proof.Proof.Gen.KernelIdeal.Frame
public import Idealize.ShloMosaic.Lib.Pipeline.Regions
public import Idealize.ShloMosaic.Lib.Pipeline.RegionTalk
public import Idealize.ShloMosaic.Lib.Pipeline.ValueKit

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

/-! ## The arrays -/

/-- Device `c`'s buffers at launch, when the call is entered, and when it returns. -/
def V₀ (c : Dev nD) : Valuation τ sig (Elt F) := fun b => m (c, b)
def V₁ (c : Dev nD) : Valuation τ sig (Elt F) := StableHlo.after hostOps0 (V₀ m c)

def xIn (c : Dev nD) : Vec F S512x256 .bf16 := V₁ m c (Proc.devRef .tc main_arg0)
def gIn (c : Dev nD) : Vec F S1x256 .bf16 := V₁ m c (Proc.devRef .tc main_v1)
def bIn (c : Dev nD) : Vec F S1x256 .bf16 := V₁ m c (Proc.devRef .tc main_v2)
/-- The pair device `d` sends, and the block of the result device `c` makes. -/
def stIn (d : Dev nD) : Vec F S2x512 .f32 := statOf (xIn m d)
def outAt (c : Dev nD) : Vec F S512x256 .bf16 := outOf (xIn m c) (gIn m c) (bIn m c) (gath (stIn m))

def V₂ (c : Dev nD) : Valuation τ sig (Elt F) := Function.update (V₁ m c) (Proc.devRef .tc main_v3) (outAt m c)

theorem V₂_out (c : Dev nD) : V₂ m c (Proc.devRef .tc main_v3) = outAt m c := Function.update_self ..
theorem V₂_of_ne (c : Dev nD) (b : DevRef τ sig) (h : b ≠ Proc.devRef .tc main_v3) : V₂ m c b = V₁ m c b := Function.update_of_ne h ..

/-! ## The proof data -/

/-- What the region's invariant takes in beside the scratch buffers, and what it leaves. -/
def entered (c : Dev nD) : sProp 𝕄 := iprop((∃ K, opened (stIn m) K c) ∗ credits c ∗ levAts L lv)
def scratch (c : Dev nD) : sProp 𝕄 := iprop(someAt c cc0_scratch0 ∗ someAt c cc0_scratch1)
def ownZero (c : Dev nD) : sProp 𝕄 := iprop((bigSep Finset.univ fun p => semVal (sendCell c p) 0) ∗ bigSep Finset.univ fun q => semVal (recvCell c q) 0)

def Φ₀ (c : Dev nD) : sProp 𝕄 := iprop(entered m c ∗ scratch c ∗ ∃ r, prngReg c r)
def Φ₁ (c : Dev nD) : sProp 𝕄 := iprop(semVal (barCell c) 0 ∗ ownZero c ∗ scratch c ∗ ∃ r, prngReg c r)

def dat (c : Dev nD) : Dat τ (Elt F) Unit ℕ UU ℕ cfg0 c where
  A w := V₁ m c (Proc.devRef .tc (Pipeline.arrRef spec0 w))
  after w _ := match w with
    | ⟨0, _⟩ => xIn m c
    | ⟨1, _⟩ => gIn m c
    | ⟨2, _⟩ => bIn m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev adm : (p : Fin 1) → (pcfgs (F := F) p).Adm := fun p => (cfgs p).toPCfg_adm
def pdats (p : Fin 1) (c : Dev nD) : Dat τ (Elt F) Unit ℕ UU ℕ (Pipeline.pin (pcfgs (F := F)) adm p) c :=
  match p with
  | 0 => dat m c

theorem owed_first (c : Dev nD) : (dat (F := F) m c).owed t0_0.castSucc = O₀ c := rfl
theorem owed_last (c : Dev nD) : (dat (F := F) m c).owed t0_0.succ = 0 := rfl

theorem before_x (c : Dev nD) (d) : (dat (F := F) m c).before (0 : Fin 4) t0_0 d = xIn m c := by
  unfold Dat.before; rw [if_pos (fetch0_0 t0_0)]
  funext i
  change V₁ m c (Proc.devRef .tc main_arg0) (((cfg0.win (0 : Fin 4)).blk t0_0).view.emb i) = V₁ m c (Proc.devRef .tc main_arg0) i
  congr 1
  funext a; refine Fin.ext ?_
  blk_simp
  fin_cases a <;> simp <;> rfl
theorem before_g (c : Dev nD) (d) : (dat (F := F) m c).before (1 : Fin 4) t0_0 d = gIn m c := by
  unfold Dat.before; rw [if_pos (fetch0_1 t0_0)]
  funext i
  change V₁ m c (Proc.devRef .tc main_v1) (((cfg0.win (1 : Fin 4)).blk t0_0).view.emb i) = V₁ m c (Proc.devRef .tc main_v1) i
  congr 1
  funext a; refine Fin.ext ?_
  blk_simp
  fin_cases a <;> simp <;> rfl
theorem before_b (c : Dev nD) (d) : (dat (F := F) m c).before (2 : Fin 4) t0_0 d = bIn m c := by
  unfold Dat.before; rw [if_pos (fetch0_2 t0_0)]
  funext i
  change V₁ m c (Proc.devRef .tc main_v2) (((cfg0.win (2 : Fin 4)).blk t0_0).view.emb i) = V₁ m c (Proc.devRef .tc main_v2) i
  congr 1
  funext a; refine Fin.ext ?_
  blk_simp
  fin_cases a <;> simp <;> rfl

theorem arr_out (c : Dev nD) : (dat (F := F) m c).arrAt (3 : Fin 4) cfg0.N = outAt m c := by
  refine (dat m c).arrAt_eq_of_after_last (3 : Fin 4) t0_0 (by decide +kernel) _ fun j => ?_
  blk_simp
  rfl

/-! ## The body obligation -/

/-- A whole staging buffer owned at contents `X` is the buffer's points-to at `X`. -/
theorem stage_eq (c : Dev nD) (b : Ref sig .tc) (X : b.ty.Contents (Elt F)) :
    (owns (c : Thread nD τ) (Memref.whole b) fullShare X : sProp 𝕄) = ((c : Thread nD τ).loc b ↦{fullShare} X) := by
  unfold owns
  simp only [Memref.view_whole, View.read_whole, View.set_whole]
  refine BI.equiv_iff.mp ⟨?_, ?_⟩
  · show (iprop(∃ f : Buf (Elt F) ((c : Thread nD τ).loc b), ⌜f = X⌝ ∗ ((c : Thread nD τ).loc b ↦{fullShare} f)) : sProp 𝕄)
      ⊢ ((c : Thread nD τ).loc b ↦{fullShare} X)
    iintro ⟨%f, %h, Hf⟩
    subst h; iexact Hf
  · show ((c : Thread nD τ).loc b ↦{fullShare} X : sProp 𝕄)
      ⊢ iprop(∃ f : Buf (Elt F) ((c : Thread nD τ).loc b), ⌜f = X⌝ ∗ ((c : Thread nD τ).loc b ↦{fullShare} f))
    iintro Hf; iexists X
    isplitr; · ipureintro; rfl
    iexact Hf

theorem owesAt_open (c : Dev nD) (t) (O : CellTallies nD τ sig Unit) (h : (dat (F := F) m c).owed t = O) :
    ((dat m c).owesAt () t : sProp 𝕄) ⊢ owing c O := by
  unfold Dat.owesAt Pipeline.owesWithin owing; rw [h]
  iintro ⟨%W, -, HO⟩; iexists W; iexact HO
theorem owesAt_close (c : Dev nD) (t) (O : CellTallies nD τ sig Unit) (h : (dat (F := F) m c).owed t = O) :
    (owing c O : sProp 𝕄) ⊢ (dat m c).owesAt () t := by
  unfold Dat.owesAt Pipeline.owesWithin Dat.bound owing; rw [h]
  iintro ⟨%W, HO⟩; iexists W
  isplitr; · ipureintro; exact fun _ _ => Or.inl trivial
  iexact HO

theorem body_obligation (c : Dev nD) : BodyObligation (dat (F := F) m c) defs₀ 𝒱₀ () Set.univ := fun t => by
  obtain rfl := fin_N0 t
  rw [bigSep_W0, bigSep_W0]
  show iprop((entered m c ∗ scratch c ∗ ∃ r, prngReg c r) ∗ (dat m c).owesAt () t0_0.castSucc
      ∗ (∃ d, owns (c : Thread nD τ) (Memref.whole cc0_stg0_0) fullShare ((dat m c).before (0 : Fin 4) t0_0 d))
      ∗ (∃ d, owns (c : Thread nD τ) (Memref.whole cc0_stg1_0) fullShare ((dat m c).before (1 : Fin 4) t0_0 d))
      ∗ (∃ d, owns (c : Thread nD τ) (Memref.whole cc0_stg2_0) fullShare ((dat m c).before (2 : Fin 4) t0_0 d))
      ∗ (∃ d, owns (c : Thread nD τ) (Memref.whole cc0_stg3_0) fullShare ((dat m c).before (3 : Fin 4) t0_0 d)))
    ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_scratch0) (Memref.isWhole_whole _) (Memref.whole cc0_scratch1) (Memref.isWhole_whole _) cc0_scratch2 cc0_scratch3)
      (fun _ => iprop((semVal (barCell c) 0 ∗ ownZero c ∗ scratch c ∗ ∃ r, prngReg c r) ∗ (dat m c).owesAt () t0_0.succ
        ∗ owns (c : Thread nD τ) (Memref.whole cc0_stg0_0) fullShare (xIn m c)
        ∗ owns (c : Thread nD τ) (Memref.whole cc0_stg1_0) fullShare (gIn m c)
        ∗ owns (c : Thread nD τ) (Memref.whole cc0_stg2_0) fullShare (bIn m c)
        ∗ owns (c : Thread nD τ) (Memref.whole cc0_stg3_0) fullShare (outAt m c)))
  simp only [before_x, before_g, before_b, stage_eq]
  iintro ⟨⟨He, Hs, Hp⟩, HO, ⟨%d0, Hx⟩, ⟨%d1, Hg⟩, ⟨%d2, Hb⟩, ⟨%d3, Hout⟩⟩
  ihave HO := (owesAt_open m c t0_0.castSucc (O₀ c) (owed_first m c)) $$ HO
  unfold entered scratch ownZero
  icases He with ⟨⟨%K, Hopen⟩, Hcr, Hlev⟩
  icases Hs with ⟨Hs0, Hs1⟩
  iapply (body_run K (xIn m) (gIn m c) (bIn m c) c)
  isplitr [Hp]
  · unfold bodyPre
    isplitl [Hopen]; · iexact Hopen
    isplitl [Hcr]; · iexact Hcr
    isplitl [Hlev]; · iexact Hlev
    isplitl [Hs0]; · iexact Hs0
    isplitl [Hs1]; · iexact Hs1
    isplitl [HO]; · iexact HO
    isplitl [Hx]; · iexact Hx
    isplitl [Hg]; · iexact Hg
    isplitl [Hb]; · iexact Hb
    unfold someAt; iexists _; iexact Hout
  unfold bodyPost
  iintro ⟨Hb0, HsV, HrV, Hs0, Hs1, HO, Hx, Hg, Hb, Hout⟩
  isplitl [Hb0 HsV HrV Hs0 Hs1 Hp]
  · isplitl [Hb0]; · iexact Hb0
    isplitl [HsV HrV]; · isplitl [HsV]; · iexact HsV
                         iexact HrV
    isplitl [Hs0 Hs1]; · isplitl [Hs0]; · iexact Hs0
                         iexact Hs1
    iexact Hp
  isplitl [HO]; · iapply (owesAt_close m c t0_0.succ 0 (owed_last m c)); iexact HO
  isplitl [Hx]; · iexact Hx
  isplitl [Hg]; · iexact Hg
  isplitl [Hb]; · iexact Hb
  iexact Hout

end Cert.Exchange
-- ==== Proof.Entry.lean ====
/-
# The call as one region of the program

The buffers that live through the program, the two reshapes of the host before the call, and the call: what enters it,
how the exchange's cells open as it is entered, and what it leaves.
-/
module

public import proofs.«01_k».proof.Proof.Region

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ)

/-! ## The buffers of the program -/

/-- The buffers that live through the program, and those of them the call does not take. -/
def bufs : Finset (DevRef τ sig) := (StableHlo.tcRefs τ sig).filter fun b => ¬ b.isScoped
def rest : Finset (DevRef τ sig) := {Proc.devRef .tc main_arg1, Proc.devRef .tc main_arg2}
/-- The four arrays the call takes. -/
def taken : Finset (DevRef τ sig) := Pipeline.arrRefs (τ := τ) spec0

theorem taken_sub : taken ⊆ bufs := by decide
theorem bufs_off : bufs \ taken = rest := by decide

theorem held_split (c : Dev nD) (W : Valuation τ sig (Elt F)) :
    (StableHlo.held (c : Thread nD τ) bufs W : sProp 𝕄)
      = iprop(StableHlo.held (c : Thread nD τ) taken W ∗ StableHlo.held (c : Thread nD τ) rest W) := by
  rw [StableHlo.held_sub_split (c : Thread nD τ) taken_sub W, bufs_off]

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem ownSems0_eq (c : Dev nD) : (Pipeline.ownSems0 osem c : sProp 𝕄) = ownZero c := by
  unfold Pipeline.ownSems0 ownZero
  rw [bigSep_univ_sum]
  rfl

theorem own_facts : Pipeline.OwnSemFacts spec0 osem := by decide

/-! ## Opening the cells -/

/-- Device `c`'s share of the ghost state before the call: its own transfers' cells not yet open. -/
def dormant (K : GSem nD τ sig → ℕ) (c : Dev nD) : sProp 𝕄 :=
  iprop(records (stIn m) K ∗ at0 (barCell c)
    ∗ (bigSep Finset.univ fun p => openTok ER (sendCell c p)) ∗ (bigSep Finset.univ fun q => openTok ER (recvCell c q))
    ∗ (bigSep Finset.univ fun p => dutyTok ER (sendCell c p) 0 c) ∗ (bigSep Finset.univ fun p => dutyTok ER (recvCell p c) 0 c)
    ∗ bigSep (Finset.univ.erase c) fun d => dutyTok ER (barCell d) 0 c)

theorem open_cell (K : GSem nD τ sig → ℕ) {g : GSem nD τ sig} (hg : g ∈ barCells ∪ scCells) :
    iprop(records (stIn m) K ∗ (openTok ER g ∗ semVal g 0)) ⊢ (|={Set.univ}=> iprop(at0 g ∗ reached ER g 0) : sProp 𝕄) := by
  unfold at0
  iintro ⟨#H, Ho, Hv⟩
  iapply (Rounds.cell_open ER (Rd (stIn m)) (g := g) (Set.mem_univ (K g)))
  isplitr
  · iapply (inv_at (stIn m) K hg); iexact H
  isplitl [Ho]; · iexact Ho
  iexact Hv

theorem open_row (K : GSem nD τ sig → ℕ) (g : Dev nD → GSem nD τ sig) (hg : ∀ q, g q ∈ barCells ∪ scCells) :
    iprop(records (stIn m) K ∗ ((bigSep Finset.univ fun q => openTok ER (g q)) ∗ bigSep Finset.univ fun q => semVal (g q) 0))
      ⊢ (|={Set.univ}=> iprop((bigSep Finset.univ fun q => at0 (g q)) ∗ bigSep Finset.univ fun q => reached ER (g q) 0) : sProp 𝕄) := by
  rw [← bigSep_sep', ← bigSep_sep']
  exact (bigSep_with_persistent (R := records (stIn m) K) fun q _ => open_cell m K (hg q)).trans (bigSep_fupd _ _)

/-- What the launch leaves a device for the call, and what the call's invariant starts from. -/
def kept (c : Dev nD) : sProp 𝕄 := iprop((∃ K, dormant m K c) ∗ credits c)

theorem enter (c : Dev nD) : iprop(kept m c ∗ Pipeline.ownSems0 osem c ∗ levAts L lv) ⊢ (|={Set.univ}=> entered m c : sProp 𝕄) := by
  rw [ownSems0_eq]
  unfold kept entered dormant ownZero
  iintro ⟨⟨⟨%K, #Hrec, HaB, HoS, HoV, HtS, HtV, HtB⟩, Hcr⟩, ⟨HzS, HzV⟩, #Hlev⟩
  imod (open_row m K (fun p => sendCell c p) (send_mem c)) $$ [HoS HzS] with ⟨HaS, HrS⟩
  · isplitr; · iexact Hrec
    isplitl [HoS] <;> iassumption
  imod (open_row m K (fun q => recvCell c q) (recv_mem c)) $$ [HoV HzV] with ⟨HaV, HrV⟩
  · isplitr; · iexact Hrec
    isplitl [HoV] <;> iassumption
  imodintro
  isplitl [HaB HaS HrS HaV HrV HtS HtV HtB]
  · iexists K; unfold opened
    isplitr; · iexact Hrec
    isplitl [HaB]; · iexact HaB
    isplitl [HaS]; · iexact HaS
    isplitl [HrS]; · iexact HrS
    isplitl [HaV]; · iexact HaV
    isplitl [HrV]; · iexact HrV
    isplitl [HtS]; · iexact HtS
    isplitl [HtV]; · iexact HtV
    iexact HtB
  isplitl [Hcr]; · iexact Hcr
  iexact Hlev

/-! ## The call -/

theorem owed_above (c : Dev nD) (t : Fin (cfg0.N + 1)) (g : GSem nD τ sig) (i : Unit) (h : 0 < (dat (F := F) m c).owed t g i) :
    i ∈ L g ∧ (0 : ℕ) < lv g i := by
  match t, h with
  | ⟨0, _⟩, h =>
    obtain ⟨x, hx, rfl⟩ := due_pos (l := allDues c) h
    rcases mem_allDues hx with ⟨p, rfl⟩ | ⟨d, rfl⟩
    · rw [L_tc, lv_recv]; exact ⟨Finset.mem_singleton_self _, by decide⟩
    · rw [L_tc]; exact ⟨Finset.mem_singleton_self _, Nat.one_pos⟩
  | ⟨_ + 1, _⟩, h => exact absurd h (Nat.lt_irrefl 0)

theorem invariant_in (c : Dev nD) :
    iprop(Pipeline.scopedRest spec0 c ∗ (∃ r, prngReg c r) ∗ StableHlo.held (c : Thread nD τ) ∅ (V₁ m c) ∗ entered m c) ⊢ (Φ₀ m c : sProp 𝕄) := by
  rw [scopedRest0_eq]
  unfold Φ₀ scratch someAt
  iintro ⟨Hs, Hp, -, He⟩
  isplitl [He]; · iexact He
  isplitl [Hs]; · iexact Hs
  iexact Hp

theorem invariant_out (c : Dev nD) : (Φ₁ c : sProp 𝕄)
    ⊢ iprop(Pipeline.scopedRest spec0 c ∗ (∃ r, prngReg c r) ∗ StableHlo.held (c : Thread nD τ) ∅ (V₂ m c) ∗ Pipeline.ownSems0 osem c ∗ semVal (barCell c) 0) := by
  rw [scopedRest0_eq, ownSems0_eq]
  unfold Φ₁ scratch someAt
  iintro ⟨Hb, Ho, Hs, Hp⟩
  isplitl [Hs]; · iexact Hs
  isplitl [Hp]; · iexact Hp
  isplitr; · unfold StableHlo.held; rw [bigSep_empty]; iempintro
  isplitl [Ho]; · iexact Ho
  iexact Hb

theorem arr_end (c : Dev nD) (w : Fin 4) : (dat (F := F) m c).arrAt w cfg0.N = V₂ m c (Proc.devRef .tc (Pipeline.arrRef spec0 w)) := by
  match w with
  | 0 => exact ((dat m c).arrAt_in (0 : Fin 4) rfl _).trans (V₂_of_ne m c (Proc.devRef .tc main_arg0) (by decide)).symm
  | 1 => exact ((dat m c).arrAt_in (1 : Fin 4) rfl _).trans (V₂_of_ne m c (Proc.devRef .tc main_v1) (by decide)).symm
  | 2 => exact ((dat m c).arrAt_in (2 : Fin 4) rfl _).trans (V₂_of_ne m c (Proc.devRef .tc main_v2) (by decide)).symm
  | 3 => exact (arr_out m c).trans (V₂_out m c).symm

set_option backward.isDefEq.respectTransparency.types false in
def call : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ rest (Finset.empty_subset _) launch0.toP rfl (fun c => (body_obligation m c).loose)
    (fun _ => 0) O₀ (fun c => (zero_add (O₀ c)).symm) (fun _ => rfl) (fun _ => rfl)
    (fun _ w => by match w with | 0 => rfl | 1 => rfl | 2 => rfl | 3 => rfl)
    (V₁ m) (V₂ m) (fun c b hb => V₂_of_ne m c b (by rintro rfl; exact absurd hb (by decide)))
    (kept m) (fun c => semVal (barCell c) 0) (entered m) (fun c => semVal (barCell c) 0)
    (enter m) (invariant_in m) (invariant_out m) (fun c => by iintro H; imodintro; iexact H)
    (fun _ => 0)
    ⟨fun c w s => by rw [L_tc]; exact Finset.mem_singleton_self _, fun c w s => by
        match w with | 0 => exact le_of_eq rfl | 1 => exact le_of_eq rfl | 2 => exact le_of_eq rfl | 3 => exact le_of_eq rfl,
      fun c t g i h => owed_above m c t g i h⟩
    (fun _ => iprop(emp)) (fun _ _ => rfl) (arr_end m)

/-! ## The two segments -/

/-- What rides beside the buffers up to the call: the ghost state of the launch, and the units owed. -/
def beside (c : Dev nD) : sProp 𝕄 := iprop((kept m c ∗ ∃ r, prngReg c r) ∗ owing c (O₀ c))

theorem ops_sub : ∀ op ∈ (hostOps0 : List (HloOp τ sig (Elt F))), op.bufs ⊆ bufs := fun op h => by
  simp only [hostOps0, List.mem_cons, List.not_mem_nil, or_false] at h
  rcases h with rfl | rfl
  · show ({Proc.devRef .tc main_arg1, Proc.devRef .tc main_v1} : Finset (DevRef τ sig)) ⊆ bufs; decide
  · show ({Proc.devRef .tc main_arg2, Proc.devRef .tc main_v2} : Finset (DevRef τ sig)) ⊆ bufs; decide
theorem ops_fresh : ∀ op ∈ (hostOps0 : List (HloOp τ sig (Elt F))), op.fresh = ∅ := fun op h => by
  simp only [hostOps0, List.mem_cons, List.not_mem_nil, or_false] at h
  rcases h with rfl | rfl <;> rfl

def host : Pipeline.HostSeg (Name := ℕ) (U := UU) (pcfgs (F := F)) defs₀ 𝒱₀ L lv :=
  Pipeline.HostSeg.ofOps _ _ _ _ _ bufs hostOps0 ops_sub ops_fresh (V₀ m) (beside m)

theorem call_pre (c : Dev nD) : iprop(StableHlo.held (c : Thread nD τ) bufs (V₁ m c) ∗ beside m c) ⊢ (call m).pre c := by
  show _ ⊢ iprop(StableHlo.held (c : Thread nD τ) taken (V₁ m c) ∗ (∃ r, prngReg c r)
    ∗ (StableHlo.held (c : Thread nD τ) rest (V₁ m c) ∗ emp) ∗ kept m c ∗ ∃ Wd, owes (c : Thread nD τ) (0 + O₀ c) Wd)
  rw [held_split, zero_add]
  unfold beside owing
  iintro ⟨⟨Ha, Hr⟩, ⟨HK, Hp⟩, HO⟩
  isplitl [Ha]; · iexact Ha
  isplitl [Hp]; · iexact Hp
  isplitl [Hr]
  · isplitl [Hr]; · iexact Hr
    iempintro
  isplitl [HK]; · iexact HK
  iexact HO

theorem call_post (c : Dev nD) : (call m).post c
    ⊢ iprop((StableHlo.held (c : Thread nD τ) bufs (V₂ m c) ∗ semVal (barCell c) 0) ∗ ∃ W, owes (c : Thread nD τ) (0 : CellTallies nD τ sig Unit) W) := by
  show iprop(StableHlo.held (c : Thread nD τ) taken (V₂ m c) ∗ (∃ r, prngReg c r)
    ∗ (StableHlo.held (c : Thread nD τ) rest (V₂ m c) ∗ emp) ∗ semVal (barCell c) 0 ∗ ∃ Wd, owes (c : Thread nD τ) (0 : CellTallies nD τ sig Unit) Wd) ⊢ _
  rw [held_split]
  iintro ⟨Ha, -, ⟨Hr, -⟩, Hb, HO⟩
  isplitr [HO]
  · isplitr [Hb]
    · isplitl [Ha]; · iexact Ha
      iexact Hr
    iexact Hb
  iexact HO

def segs : List (Pipeline.Seg (pcfgs (F := F)) adm (pdats m) () defs₀ 𝒱₀ L lv) := [.host (host m), .region (call m)]

theorem main_eq (c : Dev nD) : main (F := F) c = Pipeline.Seg.run (segs m) :=
  main_segs adm (pdats m) () 𝒱₀ L lv (host m) (call m) rfl c

end Cert.Exchange
-- ==== Proof.Launch.lean ====
/-
# The launch and the run

The launch makes every cell's record, deals each device the rights to its own cells and the tokens of the units it will
pay, and credits each cell with what the devices owe it. The run of the program follows: where it ends, the result
holds each device's block and everything else is as before.
-/
module

public import proofs.«01_k».proof.Proof.Entry
public import Idealize.ShloMosaic.Harness.Basic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

open Idealize.ShloMosaic.Smoke (bigSep_pair bigSep_unpair)

variable (m : (ℓ : Loc nD τ sig) → Buf (Elt F) ℓ) (ρ : Dev nD → PrngReg)

/-! ## The launch's ghost state -/

/-- The units device `x.1` pays: to a barrier cell, to a send cell of its own, to a receive cell. -/
def paid (x : Dev nD × (Dev nD ⊕ (Dev nD ⊕ Dev nD))) : GSem nD τ sig × ℕ × Dev nD :=
  (match x.2 with
    | .inl d => barCell d
    | .inr (.inl p) => sendCell x.1 p
    | .inr (.inr p) => recvCell p x.1, 0, x.1)

theorem paid_inj : Function.Injective paid := by
  rintro ⟨c, x⟩ ⟨c', x'⟩ h
  obtain rfl : c = c' := congrArg (fun t : GSem nD τ sig × ℕ × Dev nD => t.2.2) h
  have hg := congrArg (fun t : GSem nD τ sig × ℕ × Dev nD => t.1.2) h
  have hd := congrArg (fun t : GSem nD τ sig × ℕ × Dev nD => t.1.1.1) h
  rcases x with d | p | p <;> rcases x' with d' | p' | p'
  · exact congrArg (fun d => (c, Sum.inl d)) hd
  · cases hg
  · cases hg
  · cases hg
  · exact congrArg (fun p => (c, Sum.inr (Sum.inl p))) (sendS_inj (SemLoc.dma.inj hg))
  · exact absurd (SemLoc.dma.inj hg) (sendS_ne_recvS _ _)
  · cases hg
  · exact absurd (SemLoc.dma.inj hg).symm (sendS_ne_recvS _ _)
  · exact congrArg (fun p => (c, Sum.inr (Sum.inr p))) hd

def tokens : Finset (GSem nD τ sig × ℕ × Dev nD) := Finset.univ.map ⟨paid, paid_inj⟩

theorem cells_disjoint : Disjoint (barCells : Finset (GSem nD τ sig)) scCells := by
  rw [Finset.disjoint_left]
  rintro g h₁ h₂
  obtain ⟨c, -, rfl⟩ := Finset.mem_map.mp h₁
  obtain ⟨⟨d, k⟩, -, h⟩ := Finset.mem_map.mp h₂
  have h := congrArg (fun g : GSem nD τ sig => g.2) h
  rcases k with k | k <;> cases h

/-- The tokens device `c` pays with. -/
def dealt (c : Dev nD) : sProp 𝕄 :=
  iprop((bigSep Finset.univ fun d => dutyTok ER (barCell d) 0 c)
    ∗ (bigSep Finset.univ fun p => dutyTok ER (sendCell c p) 0 c) ∗ bigSep Finset.univ fun p => dutyTok ER (recvCell p c) 0 c)

theorem tokens_eq : bigSep tokens (fun x => (dutyTok ER x.1 x.2.1 x.2.2 : sProp 𝕄)) = bigSep Finset.univ fun c : Dev nD => dealt c := by
  unfold tokens; rw [bigSep_map, bigSep_univ_prod]
  refine bigSep_congr fun c _ => ?_
  rw [bigSep_univ_sum, bigSep_univ_sum]
  rfl

/-- What stays with device `c`. -/
def linear (c : Dev nD) : sProp 𝕄 :=
  iprop(at0 (barCell c) ∗ ((bigSep Finset.univ fun p => openTok ER (sendCell c p)) ∗ bigSep Finset.univ fun q => openTok ER (recvCell c q)) ∗ dealt c)

theorem dormant_intro (κ : GSem nD τ sig → ℕ) (c : Dev nD) : iprop(records (stIn m) κ ∗ linear c) ⊢ iprop(∃ K, dormant m K c) := by
  have hb : (bigSep Finset.univ fun d => (dutyTok ER (barCell d) 0 c : sProp 𝕄)) ⊢ bigSep (Finset.univ.erase c) fun d => dutyTok ER (barCell d) 0 c :=
    bigSep_subset (Finset.erase_subset _ _)
  unfold linear dormant dealt
  iintro ⟨#HR, Ha, ⟨HoS, HoV⟩, HtB, HtS, HtV⟩
  iexists κ
  isplitr; · iexact HR
  isplitl [Ha]; · iexact Ha
  isplitl [HoS]; · iexact HoS
  isplitl [HoV]; · iexact HoV
  isplitl [HtS]; · iexact HtS
  isplitl [HtV]; · iexact HtV
  iapply hb; iexact HtB

/-- The launch's element: the transfers of the windows, and the exchange's cells. -/
def u₀ : UU :=
  (initOf (Pipeline.cells (Pipeline.pin (pcfgs (F := F)) adm) cellOf_inj) (Pipeline.launchToks (Pipeline.pin (pcfgs (F := F)) adm) cellOf_inj),
    launchOf barCells scCells tokens)

/-- The exchange's element, held on device 0 till all devices' holdings are together. -/
def parked (c : Dev nD) : sProp 𝕄 := if c = 0 then BI.own (ER (launchOf barCells scCells tokens)) else iprop(emp)

theorem parked_all : bigSep Finset.univ (parked (F := F)) = BI.own (ER (launchOf barCells scCells tokens)) := by
  rw [bigSep_univ_at _ (0 : Dev nD), bigSep_congr (s := Finset.univ.erase 0) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

/-! ## The credit -/

theorem due_apply (l : List (GSem nD τ sig × ℕ)) (g : GSem nD τ sig) : due l g () = (l.map fun x => if g = x.1 then x.2 else 0).sum := by
  induction l with
  | nil => rfl
  | cons x xs ih =>
    show due xs g () + tallyAt x.1 () x.2 g () = _
    rw [ih, tallyAt_apply, List.map_cons, List.sum_cons, Nat.add_comm]
    congr 1
    by_cases h : g = x.1
    · rw [if_pos ⟨h, rfl⟩, if_pos h]
    · rw [if_neg fun e => h e.1, if_neg h]

theorem owed_bar : ∀ c : Dev nD, (∑ d : Dev nD, ((allDues d).map fun x => if barCell c = x.1 then x.2 else 0).sum) = 7 := by
  decide +kernel
theorem owed_recv : ∀ c q : Dev nD, (∑ d : Dev nD, ((allDues d).map fun x => if recvCell c q = x.1 then x.2 else 0).sum) = N := by
  decide +kernel

theorem credit_at (g : GSem nD τ sig) (n : ℕ) (h : (∑ d : Dev nD, ((allDues d).map fun x => if g = x.1 then x.2 else 0).sum) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, ← h]
  exact Finset.sum_congr rfl fun d _ => due_apply (allDues d) g

theorem credited (c : Dev nD) : (Pipeline.launchCred O₀ c : sProp 𝕄) ⊢ credits c := by
  unfold Pipeline.launchCred credits
  rw [bigSep_univ_at _ (SemLoc.reg barS), credit_at (barCell c) 7 (owed_bar c)]
  refine sep_mono_right ?_
  let e : Dev nD ↪ SemLoc sig := ⟨fun q => .dma (recvS q), fun p q h => recvS_inj (SemLoc.dma.inj h)⟩
  have hs : Finset.univ.map e ⊆ Finset.univ.erase (SemLoc.reg barS) := fun x hx => by
    obtain ⟨q, -, rfl⟩ := Finset.mem_map.mp hx
    exact Finset.mem_erase.mpr ⟨fun h => by injection h, Finset.mem_univ _⟩
  rw [show (bigSep Finset.univ fun q => (cred (tallyAt (recvCell c q) () N) : sProp 𝕄))
      = bigSep (Finset.univ.map e) fun sm : SemLoc sig => cred (tallyOn ((c : Thread nD τ), sm) (launchCredit (Pipeline.owing O₀) 0 ((c : Thread nD τ), sm))) from by
    rw [bigSep_map]
    exact bigSep_congr fun q _ => by rw [← credit_at (recvCell c q) N (owed_recv c q)]; rfl]
  exact bigSep_subset hs

/-! ## The launch -/

abbrev T₀ (c : Dev nD) : sProp 𝕄 := iprop(StableHlo.held (c : Thread nD τ) bufs (V₀ m c) ∗ beside m c)
abbrev Tₙ (c : Dev nD) : sProp 𝕄 := iprop(StableHlo.held (c : Thread nD τ) bufs (V₂ m c) ∗ semVal (barCell c) 0)

/-- What of a device's holdings is not the exchange's. -/
def bundle (c : Dev nD) : sProp 𝕄 :=
  iprop(StableHlo.held (c : Thread nD τ) bufs (V₀ m c) ∗ credits c ∗ owes (c : Thread nD τ) (O₀ c) ∅ ∗ ∃ r, prngReg c r)

theorem T₀_intro (κ : GSem nD τ sig → ℕ) (c : Dev nD) : iprop(records (stIn m) κ ∗ (linear c ∗ bundle m c)) ⊢ T₀ m c := by
  unfold bundle T₀ beside kept owing
  iintro ⟨#HR, Hl, Hh, Hc, HO, Hp⟩
  isplitl [Hh]; · iexact Hh
  isplitr [HO]
  · isplitr [Hp]
    · isplitl [Hl]
      · iapply (dormant_intro m κ c)
        isplitr; · iexact HR
        iexact Hl
      iexact Hc
    iexact Hp
  iexists ∅; iexact HO

/-- One device's holdings at launch, sorted. -/
theorem sorted (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(bundle m c ∗ (semVal (barCell c) 0 ∗ parked c)) : sProp 𝕄) := by
  rw [show unscopedBufs c (fun b => m ((c : Thread nD τ).loc b)) = StableHlo.held (c : Thread nD τ) bufs (V₀ m c) from unscopedBufs_held c (V₀ m c),
    unscopedSems0_eq]
  unfold bundle
  iintro ⟨Hh, Hv, HO, Hc, Hp, HG⟩
  isplitr [Hv HG]
  · isplitl [Hh]; · iexact Hh
    isplitl [Hc]; · iapply (credited (F := F) c); iexact Hc
    isplitl [HO]; · iexact HO
    iexists (ρ c); iexact Hp
  isplitl [Hv]; · iexact Hv
  iexact HG

theorem bar_vals : bigSep Finset.univ (fun c : Dev nD => (semVal (barCell c) 0 : sProp 𝕄)) ⊢ bigSep barCells fun g => semVal g 0 :=
  Entails.of_eq (bigSep_map (s := Finset.univ) barEmb (Φ := fun g : GSem nD τ sig => (semVal g 0 : sProp 𝕄))).symm
theorem bar_at : bigSep barCells (fun g => (atPos ER g 0 ∅ 0 : sProp 𝕄)) ⊢ bigSep Finset.univ fun c : Dev nD => at0 (barCell c) :=
  Entails.of_eq (bigSep_map (s := Finset.univ) barEmb (Φ := fun g : GSem nD τ sig => (atPos ER g 0 ∅ 0 : sProp 𝕄)))
theorem rights : bigSep scCells (fun g => (openTok ER g : sProp 𝕄))
    ⊢ bigSep Finset.univ fun c : Dev nD => iprop((bigSep Finset.univ fun p => openTok ER (sendCell c p)) ∗ bigSep Finset.univ fun q => openTok ER (recvCell c q)) :=
  Entails.of_eq (by
    rw [bigSep_map, bigSep_univ_prod]
    refine bigSep_congr fun c _ => ?_
    rw [bigSep_univ_sum]
    rfl)

theorem launched :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp 𝕄) := by
  iintro ⟨H, -⟩
  ihave H1 := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(bundle m c ∗ (semVal (barCell c) 0 ∗ parked c)) : sProp 𝕄) from bigSep_mono fun c _ => sorted m ρ c) $$ H
  ihave H2 := bigSep_unpair $$ H1; icases H2 with ⟨HB, H3⟩
  ihave H4 := bigSep_unpair $$ H3; icases H4 with ⟨Hv, HG⟩
  ihave Hu := (show bigSep Finset.univ (parked (F := F)) ⊢ BI.own (ER (launchOf barCells scCells tokens)) from Entails.of_eq parked_all) $$ HG
  imod (Rounds.fund_launch ER (Rd (stIn m)) cells_disjoint (fun g _ h => h) tokens) $$ [Hv Hu] with ⟨%κ, -, #Hinv, #Hr, Hat, Hopen, Htok⟩
  · isplitl [Hv]
    · iapply (bar_vals (F := F)); iexact Hv
    · iexact Hu
  imodintro
  iapply (bigSep_with_persistent (R := records (stIn m) κ) (Φ := fun c => iprop(linear c ∗ bundle m c)) fun c _ => T₀_intro m κ c)
  isplitr
  · unfold records
    isplitr; · iexact Hinv
    iexact Hr
  iapply bigSep_pair
  isplitr [HB]
  · unfold linear
    iapply bigSep_pair; isplitl [Hat]; · iapply (bar_at (F := F)); iexact Hat
    iapply bigSep_pair; isplitl [Hopen]; · iapply (rights (F := F)); iexact Hopen
    iapply (Entails.of_eq (tokens_eq (F := F))); iexact Htok
  · iexact HB

/-! ## The run -/

theorem held_list (c : Dev nD) (W : Valuation τ sig (Elt F)) : (StableHlo.held (c : Thread nD τ) bufs W : sProp 𝕄)
    ⊢ iprop(((c : Thread nD τ).loc main_arg0 ↦{fullShare} W (Proc.devRef .tc main_arg0)) ∗ ((c : Thread nD τ).loc main_arg1 ↦{fullShare} W (Proc.devRef .tc main_arg1))
      ∗ ((c : Thread nD τ).loc main_arg2 ↦{fullShare} W (Proc.devRef .tc main_arg2)) ∗ ((c : Thread nD τ).loc main_v3 ↦{fullShare} W (Proc.devRef .tc main_v3))) := by
  let l : Finset (DevRef τ sig) := {Proc.devRef .tc main_arg0, Proc.devRef .tc main_arg1, Proc.devRef .tc main_arg2, Proc.devRef .tc main_v3}
  have hl : l ⊆ bufs := by decide
  show _ ⊢ bigSepL [Proc.devRef .tc main_arg0, Proc.devRef .tc main_arg1, Proc.devRef .tc main_arg2, Proc.devRef .tc main_v3]
    fun b : DevRef τ sig => (((c : Thread nD τ).1, b) ↦{fullShare} W b : sProp 𝕄)
  rw [← bigSep_eq_bigSepL_of_eq (S := l) [Proc.devRef .tc main_arg0, Proc.devRef .tc main_arg1, Proc.devRef .tc main_arg2, Proc.devRef .tc main_v3] (by decide) (by decide)]
  exact bigSep_subset hl

theorem unscoped_eq : ∀ sm : SemLoc sig, sm.isScoped .tc = false → sm = .reg barS := by decide

/-- Where the run ends: the arguments as before, the result at each device's block, every counter at zero. -/
def ends (s : MemSt nD τ sig (Elt F)) : Prop :=
  (∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v3) = outAt m c) ∧ s.sem = fun _ => 0

def endsAt (c : Dev nD) (s : MemSt nD τ sig (Elt F)) : Prop :=
  (s.mem ((c : Thread nD τ).loc main_arg0) = V₂ m c (Proc.devRef .tc main_arg0)
    ∧ s.mem ((c : Thread nD τ).loc main_arg1) = V₂ m c (Proc.devRef .tc main_arg1)
    ∧ s.mem ((c : Thread nD τ).loc main_arg2) = V₂ m c (Proc.devRef .tc main_arg2)
    ∧ s.mem ((c : Thread nD τ).loc main_v3) = V₂ m c (Proc.devRef .tc main_v3)) ∧ s.sem (barCell c) = 0

theorem read_end (c : Dev nD) (s : Phys nD τ sig (Elt F)) : iprop(Tₙ m c ∗ SI s) ⊢ (|={Set.univ}=> iprop(⌜endsAt m c s.mem⌝ ∗ SI s) : sProp 𝕄) := by
  dsimp only [Tₙ]
  iintro ⟨⟨Hh, Hb⟩, HSI⟩
  ihave Hh := (held_list c (V₂ m c)) $$ Hh
  icases Hh with ⟨H0, H1, H2, H3⟩
  icombine HSI H0 gives %h0
  icombine HSI H1 gives %h1
  icombine HSI H2 gives %h2
  icombine HSI H3 gives %h3
  icombine HSI Hb gives %hb
  imodintro
  isplitr
  · ipureintro
    exact ⟨⟨Buf.eq_of_forall_mem_univ h0, Buf.eq_of_forall_mem_univ h1, Buf.eq_of_forall_mem_univ h2, Buf.eq_of_forall_mem_univ h3⟩, by simpa using hb⟩
  iexact HSI

theorem ends_of (s : MemSt nD τ sig (Elt F)) (h : ∀ c, endsAt m c s)
    (hs : ∀ g : GSem nD τ sig, (g.1.2 ≠ .tc ∨ g.2.isScoped .tc = true) → s.sem g = 0) : ends m s := by
  refine ⟨fun c => ?_, sem_eq_zero hs fun c sm hsm => by obtain rfl := unscoped_eq sm hsm; exact (h c).2⟩
  obtain ⟨⟨h0, h1, h2, h3⟩, -⟩ := h c
  rw [V₂_of_ne m c (Proc.devRef .tc main_arg0) (by decide)] at h0
  rw [V₂_of_ne m c (Proc.devRef .tc main_arg1) (by decide)] at h1
  rw [V₂_of_ne m c (Proc.devRef .tc main_arg2) (by decide)] at h2
  rw [V₂_out] at h3
  exact ⟨h0.trans (V_main_arg0 m c), h1.trans (V_main_arg1 m c), h2.trans (V_main_arg2 m c), h3⟩

set_option backward.isDefEq.respectTransparency.types false in
/-- From any memory with every counter at zero, every fair execution on the eight devices ends, and ends so. -/
theorem run_main : θ_run defs (onTc (τ := τ) (main (F := F))) (⟨m, fun _ => 0, ρ⟩ : MemSt nD τ sig (Elt F)) (fun r => ends m r.2) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := ⟨fun c => .rfl, fun c => call_pre m c, fun c => call_post m c⟩)
    (hinit := launched m ρ)
    (QY := endsAt m) (hfin := read_end m) (hQ := ends_of m)

end Cert.Exchange
-- ==== Proof.Numbers.lean ====
/-
# Real arithmetic of a layer norm

The literals of the two programs as real numbers, sums of real numbers inside the extended reals, a row's sum by blocks
of its columns, and the variance both ways: the mean of the squares less the square of the mean, and the mean of the
squared distances from the mean.
-/
module

public import Idealize.ShloMosaic.Lib.Pointwise
public import Idealize.ShloMosaic.Lib.IdealHost
public import Idealize.ShloMosaic.PureOps.Ideal.Laws

@[expose] public section

noncomputable section

namespace Cert.Numbers

open Idealize.ShloMosaic

/-! ## Literals -/

/-- The number added to a variance before its root. -/
def eps : ℝ := 10995116 / 1099511627776

theorem eps_pos : 0 < eps := by unfold eps; norm_num

theorem bits_eps : Ideal.ofBits .f32 0x3727C5AC#32 = (eps : EReal) := by
  simp [Ideal.ofBits, Ideal.ieee, eps, -EReal.coe_mul]; norm_num
theorem bits_count : Ideal.ofBits .f32 0x45000000#32 = ((2048 : ℝ) : EReal) := by
  simp [Ideal.ofBits, Ideal.ieee, -EReal.coe_mul]; norm_num
theorem bits_share : Ideal.ofBits .f32 0x3A000000#32 = ((1 / 2048 : ℝ) : EReal) := by
  simp [Ideal.ofBits, Ideal.ieee, -EReal.coe_mul]; norm_num
theorem bits_top : Ideal.ofBits .bf16 0x7F80#16 = ⊤ := by
  simp [Ideal.ofBits, Ideal.ieee]

/-! ## Reals among the extended reals -/

theorem sum_coe {ι : Type} [Fintype ι] (f : ι → ℝ) : ∑ i, (f i : EReal) = ((∑ i, f i : ℝ) : EReal) :=
  (map_sum (⟨⟨Real.toEReal, EReal.coe_zero⟩, EReal.coe_add⟩ : ℝ →+ EReal) f Finset.univ).symm

theorem div_coe (a : ℝ) {b : ℝ} (hb : b ≠ 0) : Ideal.div (a : EReal) (b : EReal) = ((a / b : ℝ) : EReal) := by
  rw [Ideal.div, if_neg (by exact_mod_cast hb), div_eq_mul_inv, EReal.coe_mul, EReal.coe_inv]

/-- Dividing by the root of a positive number is multiplying by its reciprocal root, whatever is divided. -/
theorem div_sqrt (a : EReal) {v : ℝ} (hv : 0 < v) : Ideal.div a (Ideal.sqrt (v : EReal)) = a * Ideal.rsqrt (v : EReal) := by
  have hs : Real.sqrt v ≠ 0 := (Real.sqrt_pos.mpr hv).ne'
  rw [Ideal.sqrt_coe, Ideal.rsqrt_coe, if_neg hv.not_gt, if_neg hv.not_gt, if_neg hv.ne', Ideal.div, if_neg (by exact_mod_cast hs), EReal.coe_inv]

/-- An extended real whose distance from zero is below the greatest is a real number. -/
theorem real_of_abs_lt {a : EReal} (h : max a (-a) < ⊤) : ∃ t : ℝ, a = (t : EReal) := by
  refine ⟨a.toReal, (EReal.coe_toReal ?_ ?_).symm⟩
  · rintro rfl; simp at h
  · rintro rfl; simp at h

/-! ## Sums by blocks -/

/-- The column of the whole that is column `j` of block `c`. -/
def col (c : Fin 8) (j : Fin 256) : Fin 2048 := ⟨c.val * 256 + j.val, by omega⟩

/-- A sum over the columns is the blocks' sums, added. -/
theorem sum_blocks (f : Fin 2048 → ℝ) : ∑ c : Fin 8, ∑ j : Fin 256, f (col c j) = ∑ k, f k := by
  rw [← Fintype.sum_prod_type' (fun c j => f (col c j))]
  refine Fintype.sum_equiv (finProdFinEquiv (m := 8) (n := 256)) _ _ fun p => ?_
  congr 1
  refine Fin.ext ?_
  show p.1.val * 256 + p.2.val = p.2.val + 256 * p.1.val
  omega

/-! ## The variance -/

/-- The mean of the squares less the square of the mean is the mean of the squared distances from the mean. -/
theorem variance_eq (f : Fin 2048 → ℝ) :
    (∑ k, f k * f k) * (1 / 2048) - ((∑ k, f k) * (1 / 2048)) * ((∑ k, f k) * (1 / 2048)) =
      (∑ k, (f k - (∑ k, f k) / 2048) * (f k - (∑ k, f k) / 2048)) / 2048 := by
  generalize hS : ∑ k, f k = S
  have h : ∀ k, (f k - S / 2048) * (f k - S / 2048) = f k * f k - 2 * (S / 2048) * f k + S / 2048 * (S / 2048) := fun k => by ring
  simp only [h, Finset.sum_add_distrib, Finset.sum_sub_distrib, ← Finset.mul_sum, hS, Finset.sum_const, Finset.card_univ, Fintype.card_fin, nsmul_eq_mul]
  push_cast
  ring

theorem variance_nonneg (f : Fin 2048 → ℝ) (μ : ℝ) : 0 ≤ (∑ k, (f k - μ) * (f k - μ)) / 2048 :=
  div_nonneg (Finset.sum_nonneg fun _ _ => mul_self_nonneg _) (by norm_num)

end Cert.Numbers

end
-- ==== Proof.RefValue.lean ====
/-
# What the reference computes

The reference's run leaves in its result the layer norm of its arguments: a row's mean, the mean of the squared distances
from it, and the scaled and shifted quotient. Here its result is read at an entry, over the extended reals.
-/
module

public import proofs.«01_k».proof.Proof.Gen.ReferenceIdeal.Run
public import proofs.«01_k».proof.Proof.Numbers
public import Idealize.ShloMosaic.Lib.Quiescent

@[expose] public section

noncomputable section

namespace Cert.Whole

open Cert.ReferenceIdeal Cert.ReferenceIdeal.Gen
open Idealize.ShloMosaic Idealize.ShloMosaic.TcCoe Idealize.SL.Sem

variable (x : FVec Ideal S512x2048 .bf16) (g b : FVec Ideal S2048 .bf16)

/-! ## The result -/

/-- The row means, one column. -/
def mean : FVec Ideal S512x1 .f32 :=
  Host.divf (broadcastInDim S512x1 ![0] bcast_S512_S512x1_0 (Host.reduceAdd (extf .f32 x bitsLt_bf16_f32) (constant S_ .f32 0x00000000#32) reducesTo_S512x2048_S512_d1 h_S_))
    (broadcastInDim S512x1 ![] bcast_S_S512x1 (constant S_ .f32 0x45000000#32))

/-- The entries less their row's mean. -/
def centred : FVec Ideal S512x2048 .f32 :=
  subf (extf .f32 x bitsLt_bf16_f32) (broadcastInDim S512x2048 ![0, 1] bcast_S512x1_S512x2048_0_1 (mean x))

/-- How many entries a row has, less the correction the variance is taken with (none). -/
def count : FVec Ideal S_ .f32 := subf (constant S_ .f32 0x45000000#32) (sitofp .f32 (constantI S_ 32 0#32))

/-- The row variances, one column. -/
def variance : FVec Ideal S512x1 .f32 :=
  select (broadcastInDim S512x1 ![] bcast_S_S512x1 (cmpf .ogt count (constant S_ .f32 0x00000000#32)))
    (Host.divf (broadcastInDim S512x1 ![0] bcast_S512_S512x1_0 (Host.reduceAdd (mulf (centred x) (centred x)) (constant S_ .f32 0x00000000#32) reducesTo_S512x2048_S512_d1 h_S_))
      (broadcastInDim S512x1 ![] bcast_S_S512x1 count))
    (broadcastInDim S512x1 ![] bcast_S_S512x1 (id (constant S_ .f32 0x7FC00000#32)))

/-- A row of scales or shifts under every row. -/
def rows (v : FVec Ideal S2048 .bf16) : FVec Ideal S512x2048 .f32 :=
  broadcastInDim S512x2048 ![0, 1] bcast_S1x2048_S512x2048_0_1 (broadcastInDim S1x2048 ![1] bcast_S2048_S1x2048_1 (extf .f32 v bitsLt_bf16_f32))

/-- The reference's result. -/
def norm : FVec Ideal S512x2048 .bf16 :=
  truncf .bf16 (addf (Host.divf (mulf (rows g) (centred x))
    (broadcastInDim S512x2048 ![0, 1] bcast_S512x1_S512x2048_0_1 (Host.sqrt (addf (variance x) (broadcastInDim S512x1 ![] bcast_S_S512x1 (constant S_ .f32 0x3727C5AC#32)))))) (rows b)) bitsLt_bf16_f32

/-! ## The run -/

/-- The reference ends with its result the layer norm, its arguments as they were and no semaphore raised. -/
theorem run_norm (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v21) = norm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨h, sem_eq_zero_of_no_sems rfl r.2⟩) (Value.run m ρ)

/-! ## Its entries -/

theorem mean_apply (r : Fin 512) :
    mean x (ix2 r (0 : Fin 1)) = Ideal.div (∑ k : Fin 2048, (x (ix2 r k) : EReal)) (Ideal.ofBits .f32 0x45000000#32) := by
  pointwise [mean]

theorem centred_apply (r : Fin 512) (k : Fin 2048) : centred x (ix2 r k) = (x (ix2 r k) : EReal) - mean x (ix2 r (0 : Fin 1)) := by
  pointwise [centred]

theorem variance_apply (r : Fin 512) :
    variance x (ix2 r (0 : Fin 1)) =
      Ideal.div (∑ k : Fin 2048, (centred x (ix2 r k) : EReal) * centred x (ix2 r k)) ((2048 : ℝ) : EReal) := by
  have hc : (Ideal.ofBits .f32 0x45000000#32 : EReal) - FloatOps.sitofp (F := Ideal) .f32 (0#32) = ((2048 : ℝ) : EReal) := by
    rw [Numbers.bits_count]
    show ((2048 : ℝ) : EReal) - (((0#32 : BitVec 32).toInt : ℝ) : EReal) = _
    simp
  pointwise [variance, count]
  rw [hc, if_pos (by exact_mod_cast (by norm_num : (0 : ℝ) < 2048))]

theorem norm_apply (r : Fin 512) (k : Fin 2048) :
    norm x g b (ix2 r k) =
      Ideal.div ((g (ix1 k) : EReal) * centred x (ix2 r k)) (Ideal.sqrt (variance x (ix2 r (0 : Fin 1)) + Ideal.ofBits .f32 0x3727C5AC#32)) + b (ix1 k) := by
  pointwise [norm, rows]

end Cert.Whole

end
-- ==== Proof.Frames.lean ====
/-
# The frames

The kernel and its idealization have one text, so one run, over any family of float values, gives the frame of each.
-/
module

public import proofs.«01_k».proof.Defs
public import proofs.«01_k».proof.Proof.Gen.Kernel
public import proofs.«01_k».proof.Proof.Launch
public import proofs.«01_k».proof.Proof.RefValue

@[expose] public section

noncomputable section

namespace Cert.Exchange

open Idealize.ShloMosaic Idealize.SL.Sem

/-- The run over any float values: the arguments as they were and no semaphore raised. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1, (h.1 c).2.1, (h.1 c).2.2.1⟩, h.2⟩) (run_main m g)

/-- The idealized kernel's frame. -/
theorem frame_ideal : Cert.quiescent_KernelIdeal := fun m g _ => frame_any m g

/-- The kernel and its idealization have one body. -/
theorem bodies_eq : Cert.Kernel.defs₀ (F := Bits) = Cert.KernelIdeal.defs₀ (F := Bits) := by
  unfold Cert.Kernel.defs₀ Cert.KernelIdeal.defs₀
  refine congrArg Defs.onTc (funext fun i => ?_)
  match i with
  | ⟨0, _⟩ => rfl

theorem defs_eq : Cert.Kernel.defs (F := Bits) = Cert.KernelIdeal.defs (F := Bits) :=
  congrArg (Pipeline.defs Cert.KernelIdeal.pcfgs) bodies_eq

/-- The kernel's frame at bit vectors: the run its idealization shares, the two texts being one. -/
theorem frame_kernel : Cert.quiescent_Kernel := fun m g _ => by
  have h := frame_any (F := Bits) m g
  rw [← defs_eq] at h
  exact h

/-- The reference's frame. -/
theorem frame_reference : Cert.quiescent_ReferenceIdeal := fun m ρ _ =>
  (θ_run (Cert.ReferenceIdeal.defs (F := Ideal)) _ _).mono (fun _ h => ⟨fun c => (h.1 c).2, h.2⟩) (Cert.Whole.run_norm m ρ)

end Cert.Exchange

end
-- ==== Proof.KernelValue.lean ====
/-
# A device's block of the result over the reals

At the extended reals, an entry of a device's block is the entry of its block of x, less the row's mean, times the
reciprocal root of the row's variance, scaled and shifted; the mean and the variance are those of the pairs all eight
devices sent.
-/
module

public import proofs.«01_k».proof.Proof.Body
public import Idealize.ShloMosaic.Lib.Pointwise
public import Idealize.ShloMosaic.PureOps.Ideal.Laws

@[expose] public section

noncomputable section

namespace Cert.Exchange

open Cert.KernelIdeal Cert.KernelIdeal.Gen
open Idealize.ShloMosaic

/-- The sum of a row of one device's block. -/
theorem statOf_sum (x : Vec Ideal S512x256 .bf16) (r : Fin 512) :
    statOf x (ix2 (0 : Fin 2) r) = ∑ k : Fin 256, (x (ix2 r k) : EReal) := by
  show k0_pay3 (k0_pay2 x) (ix2 (0 : Fin 1) r) = _
  pointwise [k0_pay3, k0_pay2]

/-- The sum of the squares of a row of one device's block. -/
theorem statOf_square (x : Vec Ideal S512x256 .bf16) (r : Fin 512) :
    statOf x (ix2 (1 : Fin 2) r) = ∑ k : Fin 256, (x (ix2 r k) : EReal) * x (ix2 r k) := by
  show k0_pay4 (k0_pay2 x) (ix2 (0 : Fin 1) r) = _
  pointwise [k0_pay4, k0_pay2]

/-- The sums the devices sent of row `r`, and of its squares. -/
def total (st : Dev nD → Vec Ideal S2x512 .f32) (q : Fin 2) (r : Fin 512) : EReal := ∑ d : Fin 8, (st d (ix2 q r) : EReal)

/-- The row's mean and variance as the kernel computes them. -/
def kMean (st : Dev nD → Vec Ideal S2x512 .f32) (r : Fin 512) : EReal := total st 0 r * Ideal.ofBits .f32 0x3A000000#32
def kVar (st : Dev nD → Vec Ideal S2x512 .f32) (r : Fin 512) : EReal :=
  total st 1 r * Ideal.ofBits .f32 0x3A000000#32 - kMean st r * kMean st r

/-- An entry of a device's block of the result. -/
theorem outOf_apply (x : Vec Ideal S512x256 .bf16) (g b : Vec Ideal S1x256 .bf16) (st : Dev nD → Vec Ideal S2x512 .f32)
    (r : Fin 512) (j : Fin 256) :
    outOf x g b (gath st) (ix2 r j) =
      (g (ix2 (0 : Fin 1) j) : EReal) *
          (((x (ix2 r j) : EReal) - kMean st r) * Ideal.rsqrt (kVar st r + Ideal.ofBits .f32 0x3727C5AC#32)) +
        b (ix2 (0 : Fin 1) j) := by
  unfold kVar kMean total
  pointwise [outOf, k0_pay1, k0_pay2, k0_pay6, k0_pay7, k0_pay8, k0_pay5, gath]
  rfl

end Cert.Exchange

end
-- ==== Proof.Equation.lean ====
/-
# The two results agree

Where every entry of x is a real number, device c's block of the kernel's result is block c of the reference's: the
blocks' sums add up to the rows' sums, the variances are one number, at least zero, and dividing by the root of a
positive number is multiplying by its reciprocal root.
-/
module

public import proofs.«01_k».proof.Proof.Region
public import proofs.«01_k».proof.Proof.KernelValue
public import proofs.«01_k».proof.Proof.RefValue
public import Idealize.ShloMosaic.Lib.Layout
public import Idealize.ShloMosaic.Lib.StableHlo.ReadAt

@[expose] public section

noncomputable section

namespace Cert.Exchange

open Cert.KernelIdeal Cert.KernelIdeal.Gen
open Idealize.ShloMosaic
open Idealize.ShloMosaic.TcCoe
open Cert.Numbers

/-! ## Blocks -/

/-- Column `j` of block `c` of an array cut along its columns. -/
theorem block_cols {α : Type} (c : Fin 8) (v : (⟨2, ![512, 2048]⟩ : Shape).Idx → α) (r : Fin 512) (j : Fin 256) :
    Layout.block ⟨2, ![512, 256]⟩ ⟨2, ![512, 2048]⟩ 1 8 c v (by decide) (ix2 r j) = v (ix2 r (col c j)) := by
  rw [Layout.block_apply]
  congr 1
  funext a
  match a with
  | ⟨0, _⟩ => rfl
  | ⟨1, _⟩ => rfl

/-- Entry `j` of block `c` of a vector. -/
theorem block_vec {α : Type} (c : Fin 8) (v : (⟨1, ![2048]⟩ : Shape).Idx → α) (j : Fin 256) :
    Layout.block ⟨1, ![256]⟩ ⟨1, ![2048]⟩ 0 8 c v (by decide) (ix1 j) = v (ix1 (col c j)) := by
  rw [Layout.block_apply]
  congr 1
  funext a
  match a with
  | ⟨0, _⟩ => rfl

/-- Every column of the whole is a column of a block. -/
theorem exists_col (k : Fin 2048) : ∃ c j, col c j = k :=
  ⟨⟨k.val / 256, by omega⟩, ⟨k.val % 256, by omega⟩, Fin.ext (by show k.val / 256 * 256 + k.val % 256 = k.val; omega)⟩

/-! ## What the call reads -/

section Entry

variable (m : (ℓ : Loc nD τ sig) → Buf (Elt Ideal) ℓ) (c : Dev nD)

theorem xIn_eq : xIn m c = m ((c : Thread nD τ).loc main_arg0) := V_main_arg0 m c

theorem gIn_apply (j : Fin 256) : gIn m c (ix2 (0 : Fin 1) j) = m ((c : Thread nD τ).loc main_arg1) (ix1 j) := by
  unfold gIn V₁ hostOps0
  after_reads_at
  rfl

theorem bIn_apply (j : Fin 256) : bIn m c (ix2 (0 : Fin 1) j) = m ((c : Thread nD τ).loc main_arg2) (ix1 j) := by
  unfold bIn V₁ hostOps0
  after_reads_at
  rfl

end Entry

/-! ## One row -/

section Row

variable (X : FVec Ideal ⟨2, ![512, 2048]⟩ .bf16) (f : Fin 512 → Fin 2048 → ℝ) (hX : ∀ r k, X (ix2 r k) = (f r k : EReal))
variable (x : Dev nD → Vec Ideal S512x256 .bf16) (hx : ∀ d r j, x d (ix2 r j) = X (ix2 r (col d j))) (r : Fin 512)

/-- The row's mean and its variance. -/
def μ (f : Fin 512 → Fin 2048 → ℝ) (r : Fin 512) : ℝ := (∑ k, f r k) / 2048
def σ (f : Fin 512 → Fin 2048 → ℝ) (r : Fin 512) : ℝ := (∑ k, (f r k - μ f r) * (f r k - μ f r)) / 2048

theorem σ_nonneg : 0 ≤ σ f r := variance_nonneg (f r) (μ f r)

include hX hx in
theorem total_sum : total (fun d => statOf (x d)) 0 r = ((∑ k, f r k : ℝ) : EReal) := by
  unfold total
  simp only [statOf_sum, hx, hX, sum_coe]
  rw [sum_blocks]

include hX hx in
theorem total_square : total (fun d => statOf (x d)) 1 r = ((∑ k, f r k * f r k : ℝ) : EReal) := by
  unfold total
  simp only [statOf_square, hx, hX, ← EReal.coe_mul, sum_coe]
  rw [sum_blocks (fun k => f r k * f r k)]

include hX hx in
theorem kMean_eq : kMean (fun d => statOf (x d)) r = (μ f r : EReal) := by
  rw [kMean, total_sum X f hX x hx, bits_share, ← EReal.coe_mul, μ, mul_one_div]

include hX hx in
theorem kVar_eq : kVar (fun d => statOf (x d)) r = (σ f r : EReal) := by
  rw [kVar, kMean_eq X f hX x hx, total_square X f hX x hx, bits_share, ← EReal.coe_mul, ← EReal.coe_mul, ← EReal.coe_sub]
  congr 1
  have h := variance_eq (f r)
  rw [mul_one_div (∑ k, f r k)] at h
  exact h

include hX in
theorem mean_eq : Cert.Whole.mean X (ix2 r (0 : Fin 1)) = (μ f r : EReal) := by
  rw [Cert.Whole.mean_apply, bits_count]
  simp only [hX, sum_coe]
  exact div_coe _ (by norm_num)

include hX in
theorem variance_row : Cert.Whole.variance X (ix2 r (0 : Fin 1)) = (σ f r : EReal) := by
  rw [Cert.Whole.variance_apply]
  simp only [Cert.Whole.centred_apply, mean_eq X f hX, hX, ← EReal.coe_sub, ← EReal.coe_mul, sum_coe]
  exact div_coe _ (by norm_num)

end Row

/-! ## The equation -/

/-- Every entry of a device's block of the result is the reference's entry there. -/
theorem outOf_eq_norm (X : FVec Ideal ⟨2, ![512, 2048]⟩ .bf16) (G B : FVec Ideal ⟨1, ![2048]⟩ .bf16)
    (hX : ∀ r k, ∃ t : ℝ, X (ix2 r k) = (t : EReal))
    (x : Dev nD → Vec Ideal S512x256 .bf16) (hx : ∀ d r j, x d (ix2 r j) = X (ix2 r (col d j)))
    (c : Dev nD) (g b : Vec Ideal S1x256 .bf16) (hg : ∀ j, g (ix2 (0 : Fin 1) j) = G (ix1 (col c j)))
    (hb : ∀ j, b (ix2 (0 : Fin 1) j) = B (ix1 (col c j))) (r : Fin 512) (j : Fin 256) :
    outOf (x c) g b (gath fun d => statOf (x d)) (ix2 r j) = Cert.Whole.norm X G B (ix2 r (col c j)) := by
  choose f hf using hX
  rw [outOf_apply, Cert.Whole.norm_apply, Cert.Whole.centred_apply, kMean_eq X f hf x hx, kVar_eq X f hf x hx,
    mean_eq X f hf, variance_row X f hf, hx, hg, hb, bits_eps, ← EReal.coe_add,
    div_sqrt _ (add_pos_of_nonneg_of_pos (σ_nonneg f r) eps_pos), mul_assoc]

end Cert.Exchange

end
-- ==== Proof.lean ====
/-
# The certificate

The frames of the kernel, of its idealization and of the reference, and the agreement of the last two over the reals
where x is finite.
-/
module

public import proofs.«01_k».proof.Defs
public import proofs.«01_k».proof.Proof.Gen.Kernel
public import proofs.«01_k».proof.Proof.Frames
public import proofs.«01_k».proof.Proof.Equation

@[expose] public section

noncomputable section

namespace Cert.Proof

open Idealize.ShloMosaic Idealize.SL.Sem
open Cert.Exchange Cert.Numbers

/-! ## The precondition -/

theorem facts_finite_kernel : Cert.Pre_finite_KernelIdeal.Facts where
  bcast_S_S512x256 := by decide

theorem facts_finite_reference : Cert.Pre_finite_ReferenceIdeal.Facts where
  bcast_S_S512x2048 := by decide

/-- A block of x of which the precondition holds has real entries. -/
theorem real_of_finite [Cert.Pre_finite_KernelIdeal.Facts] (x : FVec Ideal ⟨2, ![512, 256]⟩ .bf16) (g b : FVec Ideal ⟨1, ![256]⟩ .bf16)
    (h : Cert.Pre_finite_KernelIdeal.fn (F := Ideal) x g b = fun _ => 1#1) (r : Fin 512) (j : Fin 256) :
    ∃ t : ℝ, x (ix2 r j) = (t : EReal) := by
  have h1 := congrFun h (ix2 r j)
  revert h1
  pointwise [Cert.Pre_finite_KernelIdeal.fn]
  intro h1
  refine real_of_abs_lt ?_
  rw [Ideal.absf_def, bits_top] at h1
  by_contra hn
  rw [decide_eq_false hn] at h1
  exact absurd h1 (by decide)

/-! ## The agreement -/

section Whole

variable (m' : (ℓ : Loc Cert.ReferenceIdeal.nD Cert.ReferenceIdeal.τ Cert.ReferenceIdeal.sig) → Buf (Elt Ideal) ℓ)

/-- The reference's arguments. -/
abbrev wholeX : FVec Ideal ⟨2, ![512, 2048]⟩ .bf16 := m' (((0 : Dev Cert.ReferenceIdeal.nD).tc : Thread Cert.ReferenceIdeal.nD Cert.ReferenceIdeal.τ).loc Cert.ReferenceIdeal.main_arg0)
abbrev wholeG : FVec Ideal ⟨1, ![2048]⟩ .bf16 := m' (((0 : Dev Cert.ReferenceIdeal.nD).tc : Thread Cert.ReferenceIdeal.nD Cert.ReferenceIdeal.τ).loc Cert.ReferenceIdeal.main_arg1)
abbrev wholeB : FVec Ideal ⟨1, ![2048]⟩ .bf16 := m' (((0 : Dev Cert.ReferenceIdeal.nD).tc : Thread Cert.ReferenceIdeal.nD Cert.ReferenceIdeal.τ).loc Cert.ReferenceIdeal.main_arg2)

end Whole

/-- Where x is finite, each device's result is its block of the reference's. -/
theorem algebraic [Cert.Pre_finite_KernelIdeal.Facts] : Cert.algebraic_KernelIdeal_ReferenceIdeal_pre_finite_KernelIdeal := by
  intro m g m' g' hfin hargs
  have hx : ∀ (d : Dev Cert.KernelIdeal.nD) (r : Fin 512) (j : Fin 256), xIn m d (ix2 r j) = wholeX m' (ix2 r (col d j)) := fun d r j => by
    rw [xIn_eq, (hargs d).1]; exact block_cols d (wholeX m') r j
  refine ⟨Cert.Whole.norm (wholeX m') (wholeG m') (wholeB m'), (θ_run Cert.KernelIdeal.defs _ _).mono (fun s h c => ?_) (run_main (F := Ideal) m g),
    (θ_run Cert.ReferenceIdeal.defs _ _).mono (fun s h => h.1 0) (Cert.Whole.run_norm m' g')⟩
  refine ⟨(h.1 c).2.2.2.trans (funext fun i => ?_), (h.1 c).1, (h.1 c).2.1, (h.1 c).2.2.1⟩
  obtain ⟨r, j, rfl⟩ : ∃ (r : Fin 512) (j : Fin 256), i = ix2 r j := ⟨i 0, i 1, (ix2_eta i).symm⟩
  rw [block_cols]
  refine outOf_eq_norm _ _ _ (fun r k => ?_) (xIn m) hx c _ _ (fun j => ?_) (fun j => ?_) r j
  · obtain ⟨d, j, rfl⟩ := exists_col k
    obtain ⟨t, ht⟩ := real_of_finite _ _ _ (hfin d) r j
    refine ⟨t, ?_⟩
    rw [← hx d r j, xIn_eq]
    exact ht
  · rw [gIn_apply, (hargs c).2.1]; exact block_vec c (wholeG m') j
  · rw [bIn_apply, (hargs c).2.2]; exact block_vec c (wholeB m') j

theorem claim : Cert.Claim :=
  ⟨Cert.Kernel.Gen.facts, Cert.KernelIdeal.Gen.facts, Cert.ReferenceIdeal.Gen.facts, facts_finite_kernel, facts_finite_reference,
    frame_kernel, frame_ideal, fun m g _ => frame_ideal m g trivial, frame_reference, fun m g _ => frame_reference m g trivial, trivial,
    @algebraic facts_finite_kernel⟩

end Cert.Proof

end
